-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 6144]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![6144, 1536]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![192, 1536]⟩ ⟨2, ![1536, 1536]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S192x1536 : Shape := ⟨2, ![192, 1536]⟩
abbrev S4x192x512 : Shape := ⟨3, ![4, 192, 512]⟩
abbrev S2x192x512 : Shape := ⟨3, ![2, 192, 512]⟩
abbrev S1x192x512 : Shape := ⟨3, ![1, 192, 512]⟩
abbrev S3x6 : Shape := ⟨2, ![3, 6]⟩
abbrev S_ : Shape := ⟨0, ![]⟩
abbrev S768x512 : Shape := ⟨2, ![768, 512]⟩
abbrev S192x768 : Shape := ⟨2, ![192, 768]⟩
abbrev S192x512 : Shape := ⟨2, ![192, 512]⟩
abbrev S1x1 : Shape := ⟨2, ![1, 1]⟩

abbrev nBuf : Space → Nat
  | .hbm => 3
  | .vmem => 26
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S192x1536, .f32⟩
  | .local _ .vmem, ⟨0, _⟩ => ⟨S1536x768, .f32⟩
  | .local _ .vmem, ⟨1, _⟩ => ⟨S768x1536, .f32⟩
  | .local _ .vmem, ⟨2, _⟩ => ⟨S192x1536, .f32⟩
  | .local _ .vmem, ⟨3, _⟩ => ⟨S1536x768, .bf16⟩
  | .local _ .vmem, ⟨4, _⟩ => ⟨S768x1536, .bf16⟩
  | .local _ .vmem, ⟨5, _⟩ => ⟨S4x192x512, .f32⟩
  | .local _ .vmem, ⟨6, _⟩ => ⟨S4x192x512, .f32⟩
  | .local _ .vmem, ⟨7, _⟩ => ⟨S4x192x512, .f32⟩
  | .local _ .vmem, ⟨8, _⟩ => ⟨S4x192x512, .bf16⟩
  | .local _ .vmem, ⟨9, _⟩ => ⟨S4x192x512, .bf16⟩
  | .local _ .vmem, ⟨10, _⟩ => ⟨S4x192x512, .bf16⟩
  | .local _ .vmem, ⟨11, _⟩ => ⟨S2x192x512, .bf16⟩
  | .local _ .vmem, ⟨12, _⟩ => ⟨S2x192x512, .bf16⟩
  | .local _ .vmem, ⟨13, _⟩ => ⟨S2x192x512, .bf16⟩
  | .local _ .vmem, ⟨14, _⟩ => ⟨S1x192x512, .bf16⟩
  | .local _ .vmem, ⟨15, _⟩ => ⟨S1x192x512, .bf16⟩
  | .local _ .vmem, ⟨16, _⟩ => ⟨S1x192x512, .bf16⟩
  | .local _ .vmem, ⟨17, _⟩ => ⟨S4x192x512, .bf16⟩
  | .local _ .vmem, ⟨18, _⟩ => ⟨S4x192x512, .bf16⟩
  | .local _ .vmem, ⟨19, _⟩ => ⟨S4x192x512, .bf16⟩
  | .local _ .vmem, ⟨20, _⟩ => ⟨S2x192x512, .bf16⟩
  | .local _ .vmem, ⟨21, _⟩ => ⟨S2x192x512, .bf16⟩
  | .local _ .vmem, ⟨22, _⟩ => ⟨S2x192x512, .bf16⟩
  | .local _ .vmem, ⟨23, _⟩ => ⟨S1x192x512, .bf16⟩
  | .local _ .vmem, ⟨24, _⟩ => ⟨S1x192x512, .bf16⟩
  | .local _ .vmem, ⟨25, _⟩ => ⟨S1x192x512, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_scratch20 : Ref sig .tc := ⟨.vmem, 23, rfl⟩
abbrev cc0_scratch21 : Ref sig .tc := ⟨.vmem, 24, rfl⟩
abbrev cc0_scratch22 : Ref sig .tc := ⟨.vmem, 25, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_60 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v76 : BitVec 32 := Scalar.muli c4_i32_32 v74
  let c2_i32_33 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v77 : BitVec 32 := Scalar.muli c2_i32_33 v57
  let v78 : BitVec 32 := Scalar.addi v76 v77
  let c1_i32_31 : BitVec 32 := 1#32
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v75 : BitVec 32 := Scalar.subi c1_i32_31 v40
  let v79 : BitVec 32 := Scalar.addi v75 v57
  let c2_i32_34 : BitVec 32 := 2#32
  let c0_i32_35 : BitVec 32 := 0#32
  let v80 : BitVec 1 := Scalar.cmpi .eq c2_i32_34 c0_i32_35
  let c1_i32_36 : BitVec 32 := 1#32
  let v81 : BitVec 32 := Scalar.select v80 c1_i32_36 c2_i32_34
  let v82 : BitVec 32 := Scalar.remsi v79 v81
  let c0_i32_38 : BitVec 32 := 0#32
  let v84 : BitVec 1 := Scalar.cmpi .slt v82 c0_i32_38
  let c0_i32_39 : BitVec 32 := 0#32
  let v85 : BitVec 1 := Scalar.cmpi .slt v81 c0_i32_39
  let v86 : BitVec 1 := Scalar.xori v84 v85
  let c0_i32_37 : BitVec 32 := 0#32
  let v83 : BitVec 1 := Scalar.cmpi .ne v82 c0_i32_37
  let v87 : BitVec 1 := Scalar.andi v86 v83
  let v88 : BitVec 32 := Scalar.addi v82 v81
  let v89 : BitVec 32 := Scalar.select v87 v88 v82
  let v90 : BitVec 32 := Scalar.addi v78 v89
  let c1_i32_59 : BitVec 32 := 1#32
  let v124 : BitVec 32 := Scalar.muli v90 c1_i32_59
  let v125 : BitVec 32 := Scalar.addi c0_i32_60 v124
  v125.toNat
def k0_dev2 (d0 : Dev nD) : Nat :=
  let c0_i32_63 : BitVec 32 := 0#32
  let c4_i32_41 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v92 : BitVec 32 := Scalar.muli c4_i32_41 v74
  let c2_i32_42 : BitVec 32 := 2#32
  let c1_i32_40 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v91 : BitVec 32 := Scalar.subi c1_i32_40 v57
  let v93 : BitVec 32 := Scalar.muli c2_i32_42 v91
  let v94 : BitVec 32 := Scalar.addi v92 v93
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v95 : BitVec 32 := Scalar.addi v40 v91
  let c2_i32_43 : BitVec 32 := 2#32
  let c0_i32_44 : BitVec 32 := 0#32
  let v96 : BitVec 1 := Scalar.cmpi .eq c2_i32_43 c0_i32_44
  let c1_i32_45 : BitVec 32 := 1#32
  let v97 : BitVec 32 := Scalar.select v96 c1_i32_45 c2_i32_43
  let v98 : BitVec 32 := Scalar.remsi v95 v97
  let c0_i32_47 : BitVec 32 := 0#32
  let v100 : BitVec 1 := Scalar.cmpi .slt v98 c0_i32_47
  let c0_i32_48 : BitVec 32 := 0#32
  let v101 : BitVec 1 := Scalar.cmpi .slt v97 c0_i32_48
  let v102 : BitVec 1 := Scalar.xori v100 v101
  let c0_i32_46 : BitVec 32 := 0#32
  let v99 : BitVec 1 := Scalar.cmpi .ne v98 c0_i32_46
  let v103 : BitVec 1 := Scalar.andi v102 v99
  let v104 : BitVec 32 := Scalar.addi v98 v97
  let v105 : BitVec 32 := Scalar.select v103 v104 v98
  let v106 : BitVec 32 := Scalar.addi v94 v105
  let c1_i32_62 : BitVec 32 := 1#32
  let v126 : BitVec 32 := Scalar.muli v106 c1_i32_62
  let v127 : BitVec 32 := Scalar.addi c0_i32_63 v126
  v127.toNat
def k0_dev3 (d0 : Dev nD) : Nat :=
  let c0_i32_66 : BitVec 32 := 0#32
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v107 : BitVec 32 := Scalar.subi c1_i32_49 v74
  let v108 : BitVec 32 := Scalar.muli c4_i32_50 v107
  let c2_i32_51 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v109 : BitVec 32 := Scalar.muli c2_i32_51 v57
  let v110 : BitVec 32 := Scalar.addi v108 v109
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v111 : BitVec 32 := Scalar.addi v40 v57
  let c2_i32_52 : BitVec 32 := 2#32
  let c0_i32_53 : BitVec 32 := 0#32
  let v112 : BitVec 1 := Scalar.cmpi .eq c2_i32_52 c0_i32_53
  let c1_i32_54 : BitVec 32 := 1#32
  let v113 : BitVec 32 := Scalar.select v112 c1_i32_54 c2_i32_52
  let v114 : BitVec 32 := Scalar.remsi v111 v113
  let c0_i32_56 : BitVec 32 := 0#32
  let v116 : BitVec 1 := Scalar.cmpi .slt v114 c0_i32_56
  let c0_i32_57 : BitVec 32 := 0#32
  let v117 : BitVec 1 := Scalar.cmpi .slt v113 c0_i32_57
  let v118 : BitVec 1 := Scalar.xori v116 v117
  let c0_i32_55 : BitVec 32 := 0#32
  let v115 : BitVec 1 := Scalar.cmpi .ne v114 c0_i32_55
  let v119 : BitVec 1 := Scalar.andi v118 v115
  let v120 : BitVec 32 := Scalar.addi v114 v113
  let v121 : BitVec 32 := Scalar.select v119 v120 v114
  let v122 : BitVec 32 := Scalar.addi v110 v121
  let c1_i32_65 : BitVec 32 := 1#32
  let v128 : BitVec 32 := Scalar.muli v122 c1_i32_65
  let v129 : BitVec 32 := Scalar.addi c0_i32_66 v128
  v129.toNat
def k0_off1 (d0 : Dev nD) : Fin 2 → Nat :=
  let c4_i32_72 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v138 : BitVec 32 := Scalar.muli c4_i32_72 v74
  let c2_i32_73 : BitVec 32 := 2#32
  let c1_i32_71 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v137 : BitVec 32 := Scalar.subi c1_i32_71 v57
  let v139 : BitVec 32 := Scalar.muli c2_i32_73 v137
  let v140 : BitVec 32 := Scalar.addi v138 v139
  let c1_i32_70 : BitVec 32 := 1#32
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v136 : BitVec 32 := Scalar.subi c1_i32_70 v40
  let v141 : BitVec 32 := Scalar.addi v136 v137
  let c2_i32_74 : BitVec 32 := 2#32
  let c0_i32_75 : BitVec 32 := 0#32
  let v142 : BitVec 1 := Scalar.cmpi .eq c2_i32_74 c0_i32_75
  let c1_i32_76 : BitVec 32 := 1#32
  let v143 : BitVec 32 := Scalar.select v142 c1_i32_76 c2_i32_74
  let v144 : BitVec 32 := Scalar.remsi v141 v143
  let c0_i32_78 : BitVec 32 := 0#32
  let v146 : BitVec 1 := Scalar.cmpi .slt v144 c0_i32_78
  let c0_i32_79 : BitVec 32 := 0#32
  let v147 : BitVec 1 := Scalar.cmpi .slt v143 c0_i32_79
  let v148 : BitVec 1 := Scalar.xori v146 v147
  let c0_i32_77 : BitVec 32 := 0#32
  let v145 : BitVec 1 := Scalar.cmpi .ne v144 c0_i32_77
  let v149 : BitVec 1 := Scalar.andi v148 v145
  let v150 : BitVec 32 := Scalar.addi v144 v143
  let v151 : BitVec 32 := Scalar.select v149 v150 v144
  let v152 : BitVec 32 := Scalar.addi v140 v151
  let c192_i32 : BitVec 32 := 192#32
  let v153 : BitVec 32 := Scalar.muli v152 c192_i32
  let v154 : Index := Scalar.indexCast v153
  let c0_80 : Index := 0#32
  ![v154.toNat, 0]
def k0_off2 (d0 : Dev nD) : Fin 2 → Nat :=
  let c4_i32_88 : BitVec 32 := 4#32
  let c1_i32_87 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v166 : BitVec 32 := Scalar.subi c1_i32_87 v74
  let v167 : BitVec 32 := Scalar.muli c4_i32_88 v166
  let c2_i32_89 : BitVec 32 := 2#32
  let c1_i32_86 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v165 : BitVec 32 := Scalar.subi c1_i32_86 v57
  let v168 : BitVec 32 := Scalar.muli c2_i32_89 v165
  let v169 : BitVec 32 := Scalar.addi v167 v168
  let c1_i32_85 : BitVec 32 := 1#32
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v164 : BitVec 32 := Scalar.subi c1_i32_85 v40
  let v170 : BitVec 32 := Scalar.addi v164 v165
  let c2_i32_90 : BitVec 32 := 2#32
  let c0_i32_91 : BitVec 32 := 0#32
  let v171 : BitVec 1 := Scalar.cmpi .eq c2_i32_90 c0_i32_91
  let c1_i32_92 : BitVec 32 := 1#32
  let v172 : BitVec 32 := Scalar.select v171 c1_i32_92 c2_i32_90
  let v173 : BitVec 32 := Scalar.remsi v170 v172
  let c0_i32_94 : BitVec 32 := 0#32
  let v175 : BitVec 1 := Scalar.cmpi .slt v173 c0_i32_94
  let c0_i32_95 : BitVec 32 := 0#32
  let v176 : BitVec 1 := Scalar.cmpi .slt v172 c0_i32_95
  let v177 : BitVec 1 := Scalar.xori v175 v176
  let c0_i32_93 : BitVec 32 := 0#32
  let v174 : BitVec 1 := Scalar.cmpi .ne v173 c0_i32_93
  let v178 : BitVec 1 := Scalar.andi v177 v174
  let v179 : BitVec 32 := Scalar.addi v173 v172
  let v180 : BitVec 32 := Scalar.select v178 v179 v173
  let v181 : BitVec 32 := Scalar.addi v169 v180
  let c192_i32_96 : BitVec 32 := 192#32
  let v182 : BitVec 32 := Scalar.muli v181 c192_i32_96
  let v183 : Index := Scalar.indexCast v182
  let c0_97 : Index := 0#32
  ![v183.toNat, 0]
def k0_dev4 (d0 : Dev nD) : Nat :=
  let c0_i32_108 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v76 : BitVec 32 := Scalar.muli c4_i32_32 v74
  let c2_i32_33 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v77 : BitVec 32 := Scalar.muli c2_i32_33 v57
  let v78 : BitVec 32 := Scalar.addi v76 v77
  let c1_i32_31 : BitVec 32 := 1#32
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v75 : BitVec 32 := Scalar.subi c1_i32_31 v40
  let v79 : BitVec 32 := Scalar.addi v75 v57
  let c2_i32_34 : BitVec 32 := 2#32
  let c0_i32_35 : BitVec 32 := 0#32
  let v80 : BitVec 1 := Scalar.cmpi .eq c2_i32_34 c0_i32_35
  let c1_i32_36 : BitVec 32 := 1#32
  let v81 : BitVec 32 := Scalar.select v80 c1_i32_36 c2_i32_34
  let v82 : BitVec 32 := Scalar.remsi v79 v81
  let c0_i32_38 : BitVec 32 := 0#32
  let v84 : BitVec 1 := Scalar.cmpi .slt v82 c0_i32_38
  let c0_i32_39 : BitVec 32 := 0#32
  let v85 : BitVec 1 := Scalar.cmpi .slt v81 c0_i32_39
  let v86 : BitVec 1 := Scalar.xori v84 v85
  let c0_i32_37 : BitVec 32 := 0#32
  let v83 : BitVec 1 := Scalar.cmpi .ne v82 c0_i32_37
  let v87 : BitVec 1 := Scalar.andi v86 v83
  let v88 : BitVec 32 := Scalar.addi v82 v81
  let v89 : BitVec 32 := Scalar.select v87 v88 v82
  let v90 : BitVec 32 := Scalar.addi v78 v89
  let c1_i32_107 : BitVec 32 := 1#32
  let v193 : BitVec 32 := Scalar.muli v90 c1_i32_107
  let v194 : BitVec 32 := Scalar.addi c0_i32_108 v193
  v194.toNat
def k0_off3 (d0 : Dev nD) : Fin 2 → Nat :=
  let c4_i32_120 : BitVec 32 := 4#32
  let c1_i32_119 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v208 : BitVec 32 := Scalar.subi c1_i32_119 v74
  let v209 : BitVec 32 := Scalar.muli c4_i32_120 v208
  let c2_i32_121 : BitVec 32 := 2#32
  let c1_i32_118 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v207 : BitVec 32 := Scalar.subi c1_i32_118 v57
  let v210 : BitVec 32 := Scalar.muli c2_i32_121 v207
  let v211 : BitVec 32 := Scalar.addi v209 v210
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v212 : BitVec 32 := Scalar.addi v40 v207
  let c2_i32_122 : BitVec 32 := 2#32
  let c0_i32_123 : BitVec 32 := 0#32
  let v213 : BitVec 1 := Scalar.cmpi .eq c2_i32_122 c0_i32_123
  let c1_i32_124 : BitVec 32 := 1#32
  let v214 : BitVec 32 := Scalar.select v213 c1_i32_124 c2_i32_122
  let v215 : BitVec 32 := Scalar.remsi v212 v214
  let c0_i32_126 : BitVec 32 := 0#32
  let v217 : BitVec 1 := Scalar.cmpi .slt v215 c0_i32_126
  let c0_i32_127 : BitVec 32 := 0#32
  let v218 : BitVec 1 := Scalar.cmpi .slt v214 c0_i32_127
  let v219 : BitVec 1 := Scalar.xori v217 v218
  let c0_i32_125 : BitVec 32 := 0#32
  let v216 : BitVec 1 := Scalar.cmpi .ne v215 c0_i32_125
  let v220 : BitVec 1 := Scalar.andi v219 v216
  let v221 : BitVec 32 := Scalar.addi v215 v214
  let v222 : BitVec 32 := Scalar.select v220 v221 v215
  let v223 : BitVec 32 := Scalar.addi v211 v222
  let c192_i32_128 : BitVec 32 := 192#32
  let v224 : BitVec 32 := Scalar.muli v223 c192_i32_128
  let v225 : Index := Scalar.indexCast v224
  let c0_129 : Index := 0#32
  ![v225.toNat, 0]
def k0_dev5 (d0 : Dev nD) : Nat :=
  let c0_i32_160 : BitVec 32 := 0#32
  let c4_i32_41 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v92 : BitVec 32 := Scalar.muli c4_i32_41 v74
  let c2_i32_42 : BitVec 32 := 2#32
  let c1_i32_40 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v91 : BitVec 32 := Scalar.subi c1_i32_40 v57
  let v93 : BitVec 32 := Scalar.muli c2_i32_42 v91
  let v94 : BitVec 32 := Scalar.addi v92 v93
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v95 : BitVec 32 := Scalar.addi v40 v91
  let c2_i32_43 : BitVec 32 := 2#32
  let c0_i32_44 : BitVec 32 := 0#32
  let v96 : BitVec 1 := Scalar.cmpi .eq c2_i32_43 c0_i32_44
  let c1_i32_45 : BitVec 32 := 1#32
  let v97 : BitVec 32 := Scalar.select v96 c1_i32_45 c2_i32_43
  let v98 : BitVec 32 := Scalar.remsi v95 v97
  let c0_i32_47 : BitVec 32 := 0#32
  let v100 : BitVec 1 := Scalar.cmpi .slt v98 c0_i32_47
  let c0_i32_48 : BitVec 32 := 0#32
  let v101 : BitVec 1 := Scalar.cmpi .slt v97 c0_i32_48
  let v102 : BitVec 1 := Scalar.xori v100 v101
  let c0_i32_46 : BitVec 32 := 0#32
  let v99 : BitVec 1 := Scalar.cmpi .ne v98 c0_i32_46
  let v103 : BitVec 1 := Scalar.andi v102 v99
  let v104 : BitVec 32 := Scalar.addi v98 v97
  let v105 : BitVec 32 := Scalar.select v103 v104 v98
  let v106 : BitVec 32 := Scalar.addi v94 v105
  let c1_i32_159 : BitVec 32 := 1#32
  let v264 : BitVec 32 := Scalar.muli v106 c1_i32_159
  let v265 : BitVec 32 := Scalar.addi c0_i32_160 v264
  v265.toNat
def k0_off4 (d0 : Dev nD) : Fin 2 → Nat :=
  let c4_i32_172 : BitVec 32 := 4#32
  let c1_i32_171 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v279 : BitVec 32 := Scalar.subi c1_i32_171 v74
  let v280 : BitVec 32 := Scalar.muli c4_i32_172 v279
  let c2_i32_173 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v281 : BitVec 32 := Scalar.muli c2_i32_173 v57
  let v282 : BitVec 32 := Scalar.addi v280 v281
  let c1_i32_170 : BitVec 32 := 1#32
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v278 : BitVec 32 := Scalar.subi c1_i32_170 v40
  let v283 : BitVec 32 := Scalar.addi v278 v57
  let c2_i32_174 : BitVec 32 := 2#32
  let c0_i32_175 : BitVec 32 := 0#32
  let v284 : BitVec 1 := Scalar.cmpi .eq c2_i32_174 c0_i32_175
  let c1_i32_176 : BitVec 32 := 1#32
  let v285 : BitVec 32 := Scalar.select v284 c1_i32_176 c2_i32_174
  let v286 : BitVec 32 := Scalar.remsi v283 v285
  let c0_i32_178 : BitVec 32 := 0#32
  let v288 : BitVec 1 := Scalar.cmpi .slt v286 c0_i32_178
  let c0_i32_179 : BitVec 32 := 0#32
  let v289 : BitVec 1 := Scalar.cmpi .slt v285 c0_i32_179
  let v290 : BitVec 1 := Scalar.xori v288 v289
  let c0_i32_177 : BitVec 32 := 0#32
  let v287 : BitVec 1 := Scalar.cmpi .ne v286 c0_i32_177
  let v291 : BitVec 1 := Scalar.andi v290 v287
  let v292 : BitVec 32 := Scalar.addi v286 v285
  let v293 : BitVec 32 := Scalar.select v291 v292 v286
  let v294 : BitVec 32 := Scalar.addi v282 v293
  let c192_i32_180 : BitVec 32 := 192#32
  let v295 : BitVec 32 := Scalar.muli v294 c192_i32_180
  let v296 : Index := Scalar.indexCast v295
  let c0_181 : Index := 0#32
  ![v296.toNat, 0]
def k0_dev6 (d0 : Dev nD) : Nat :=
  let c0_i32_212 : BitVec 32 := 0#32
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v107 : BitVec 32 := Scalar.subi c1_i32_49 v74
  let v108 : BitVec 32 := Scalar.muli c4_i32_50 v107
  let c2_i32_51 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v109 : BitVec 32 := Scalar.muli c2_i32_51 v57
  let v110 : BitVec 32 := Scalar.addi v108 v109
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v111 : BitVec 32 := Scalar.addi v40 v57
  let c2_i32_52 : BitVec 32 := 2#32
  let c0_i32_53 : BitVec 32 := 0#32
  let v112 : BitVec 1 := Scalar.cmpi .eq c2_i32_52 c0_i32_53
  let c1_i32_54 : BitVec 32 := 1#32
  let v113 : BitVec 32 := Scalar.select v112 c1_i32_54 c2_i32_52
  let v114 : BitVec 32 := Scalar.remsi v111 v113
  let c0_i32_56 : BitVec 32 := 0#32
  let v116 : BitVec 1 := Scalar.cmpi .slt v114 c0_i32_56
  let c0_i32_57 : BitVec 32 := 0#32
  let v117 : BitVec 1 := Scalar.cmpi .slt v113 c0_i32_57
  let v118 : BitVec 1 := Scalar.xori v116 v117
  let c0_i32_55 : BitVec 32 := 0#32
  let v115 : BitVec 1 := Scalar.cmpi .ne v114 c0_i32_55
  let v119 : BitVec 1 := Scalar.andi v118 v115
  let v120 : BitVec 32 := Scalar.addi v114 v113
  let v121 : BitVec 32 := Scalar.select v119 v120 v114
  let v122 : BitVec 32 := Scalar.addi v110 v121
  let c1_i32_211 : BitVec 32 := 1#32
  let v335 : BitVec 32 := Scalar.muli v122 c1_i32_211
  let v336 : BitVec 32 := Scalar.addi c0_i32_212 v335
  v336.toNat
def k0_dev7 (d0 : Dev nD) : Nat :=
  let c0_i32_241 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v76 : BitVec 32 := Scalar.muli c4_i32_32 v74
  let c2_i32_33 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v77 : BitVec 32 := Scalar.muli c2_i32_33 v57
  let v78 : BitVec 32 := Scalar.addi v76 v77
  let c1_i32_31 : BitVec 32 := 1#32
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v75 : BitVec 32 := Scalar.subi c1_i32_31 v40
  let v79 : BitVec 32 := Scalar.addi v75 v57
  let c2_i32_34 : BitVec 32 := 2#32
  let c0_i32_35 : BitVec 32 := 0#32
  let v80 : BitVec 1 := Scalar.cmpi .eq c2_i32_34 c0_i32_35
  let c1_i32_36 : BitVec 32 := 1#32
  let v81 : BitVec 32 := Scalar.select v80 c1_i32_36 c2_i32_34
  let v82 : BitVec 32 := Scalar.remsi v79 v81
  let c0_i32_38 : BitVec 32 := 0#32
  let v84 : BitVec 1 := Scalar.cmpi .slt v82 c0_i32_38
  let c0_i32_39 : BitVec 32 := 0#32
  let v85 : BitVec 1 := Scalar.cmpi .slt v81 c0_i32_39
  let v86 : BitVec 1 := Scalar.xori v84 v85
  let c0_i32_37 : BitVec 32 := 0#32
  let v83 : BitVec 1 := Scalar.cmpi .ne v82 c0_i32_37
  let v87 : BitVec 1 := Scalar.andi v86 v83
  let v88 : BitVec 32 := Scalar.addi v82 v81
  let v89 : BitVec 32 := Scalar.select v87 v88 v82
  let v90 : BitVec 32 := Scalar.addi v78 v89
  let c1_i32_240 : BitVec 32 := 1#32
  let v371 : BitVec 32 := Scalar.muli v90 c1_i32_240
  let v372 : BitVec 32 := Scalar.addi c0_i32_241 v371
  v372.toNat
def k0_off5 (d0 : Dev nD) : Fin 2 → Nat :=
  let c4_i32_249 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v380 : BitVec 32 := Scalar.muli c4_i32_249 v74
  let c2_i32_250 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v381 : BitVec 32 := Scalar.muli c2_i32_250 v57
  let v382 : BitVec 32 := Scalar.addi v380 v381
  let c1_i32_248 : BitVec 32 := 1#32
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v379 : BitVec 32 := Scalar.subi c1_i32_248 v40
  let v383 : BitVec 32 := Scalar.addi v379 v57
  let c2_i32_251 : BitVec 32 := 2#32
  let c0_i32_252 : BitVec 32 := 0#32
  let v384 : BitVec 1 := Scalar.cmpi .eq c2_i32_251 c0_i32_252
  let c1_i32_253 : BitVec 32 := 1#32
  let v385 : BitVec 32 := Scalar.select v384 c1_i32_253 c2_i32_251
  let v386 : BitVec 32 := Scalar.remsi v383 v385
  let c0_i32_255 : BitVec 32 := 0#32
  let v388 : BitVec 1 := Scalar.cmpi .slt v386 c0_i32_255
  let c0_i32_256 : BitVec 32 := 0#32
  let v389 : BitVec 1 := Scalar.cmpi .slt v385 c0_i32_256
  let v390 : BitVec 1 := Scalar.xori v388 v389
  let c0_i32_254 : BitVec 32 := 0#32
  let v387 : BitVec 1 := Scalar.cmpi .ne v386 c0_i32_254
  let v391 : BitVec 1 := Scalar.andi v390 v387
  let v392 : BitVec 32 := Scalar.addi v386 v385
  let v393 : BitVec 32 := Scalar.select v391 v392 v386
  let v394 : BitVec 32 := Scalar.addi v382 v393
  let c192_i32_257 : BitVec 32 := 192#32
  let v395 : BitVec 32 := Scalar.muli v394 c192_i32_257
  let v396 : Index := Scalar.indexCast v395
  let c0_258 : Index := 0#32
  ![v396.toNat, 0]
def k0_dev8 (d0 : Dev nD) : Nat :=
  let c0_i32_270 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v76 : BitVec 32 := Scalar.muli c4_i32_32 v74
  let c2_i32_33 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v77 : BitVec 32 := Scalar.muli c2_i32_33 v57
  let v78 : BitVec 32 := Scalar.addi v76 v77
  let c1_i32_31 : BitVec 32 := 1#32
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v75 : BitVec 32 := Scalar.subi c1_i32_31 v40
  let v79 : BitVec 32 := Scalar.addi v75 v57
  let c2_i32_34 : BitVec 32 := 2#32
  let c0_i32_35 : BitVec 32 := 0#32
  let v80 : BitVec 1 := Scalar.cmpi .eq c2_i32_34 c0_i32_35
  let c1_i32_36 : BitVec 32 := 1#32
  let v81 : BitVec 32 := Scalar.select v80 c1_i32_36 c2_i32_34
  let v82 : BitVec 32 := Scalar.remsi v79 v81
  let c0_i32_38 : BitVec 32 := 0#32
  let v84 : BitVec 1 := Scalar.cmpi .slt v82 c0_i32_38
  let c0_i32_39 : BitVec 32 := 0#32
  let v85 : BitVec 1 := Scalar.cmpi .slt v81 c0_i32_39
  let v86 : BitVec 1 := Scalar.xori v84 v85
  let c0_i32_37 : BitVec 32 := 0#32
  let v83 : BitVec 1 := Scalar.cmpi .ne v82 c0_i32_37
  let v87 : BitVec 1 := Scalar.andi v86 v83
  let v88 : BitVec 32 := Scalar.addi v82 v81
  let v89 : BitVec 32 := Scalar.select v87 v88 v82
  let v90 : BitVec 32 := Scalar.addi v78 v89
  let c1_i32_269 : BitVec 32 := 1#32
  let v406 : BitVec 32 := Scalar.muli v90 c1_i32_269
  let v407 : BitVec 32 := Scalar.addi c0_i32_270 v406
  v407.toNat
def k0_dev9 (d0 : Dev nD) : Nat :=
  let c0_i32_300 : BitVec 32 := 0#32
  let c4_i32_41 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v92 : BitVec 32 := Scalar.muli c4_i32_41 v74
  let c2_i32_42 : BitVec 32 := 2#32
  let c1_i32_40 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v91 : BitVec 32 := Scalar.subi c1_i32_40 v57
  let v93 : BitVec 32 := Scalar.muli c2_i32_42 v91
  let v94 : BitVec 32 := Scalar.addi v92 v93
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v95 : BitVec 32 := Scalar.addi v40 v91
  let c2_i32_43 : BitVec 32 := 2#32
  let c0_i32_44 : BitVec 32 := 0#32
  let v96 : BitVec 1 := Scalar.cmpi .eq c2_i32_43 c0_i32_44
  let c1_i32_45 : BitVec 32 := 1#32
  let v97 : BitVec 32 := Scalar.select v96 c1_i32_45 c2_i32_43
  let v98 : BitVec 32 := Scalar.remsi v95 v97
  let c0_i32_47 : BitVec 32 := 0#32
  let v100 : BitVec 1 := Scalar.cmpi .slt v98 c0_i32_47
  let c0_i32_48 : BitVec 32 := 0#32
  let v101 : BitVec 1 := Scalar.cmpi .slt v97 c0_i32_48
  let v102 : BitVec 1 := Scalar.xori v100 v101
  let c0_i32_46 : BitVec 32 := 0#32
  let v99 : BitVec 1 := Scalar.cmpi .ne v98 c0_i32_46
  let v103 : BitVec 1 := Scalar.andi v102 v99
  let v104 : BitVec 32 := Scalar.addi v98 v97
  let v105 : BitVec 32 := Scalar.select v103 v104 v98
  let v106 : BitVec 32 := Scalar.addi v94 v105
  let c1_i32_299 : BitVec 32 := 1#32
  let v442 : BitVec 32 := Scalar.muli v106 c1_i32_299
  let v443 : BitVec 32 := Scalar.addi c0_i32_300 v442
  v443.toNat
def k0_off6 (d0 : Dev nD) : Fin 2 → Nat :=
  let c4_i32_308 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v451 : BitVec 32 := Scalar.muli c4_i32_308 v74
  let c2_i32_309 : BitVec 32 := 2#32
  let c1_i32_307 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v450 : BitVec 32 := Scalar.subi c1_i32_307 v57
  let v452 : BitVec 32 := Scalar.muli c2_i32_309 v450
  let v453 : BitVec 32 := Scalar.addi v451 v452
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v454 : BitVec 32 := Scalar.addi v40 v450
  let c2_i32_310 : BitVec 32 := 2#32
  let c0_i32_311 : BitVec 32 := 0#32
  let v455 : BitVec 1 := Scalar.cmpi .eq c2_i32_310 c0_i32_311
  let c1_i32_312 : BitVec 32 := 1#32
  let v456 : BitVec 32 := Scalar.select v455 c1_i32_312 c2_i32_310
  let v457 : BitVec 32 := Scalar.remsi v454 v456
  let c0_i32_314 : BitVec 32 := 0#32
  let v459 : BitVec 1 := Scalar.cmpi .slt v457 c0_i32_314
  let c0_i32_315 : BitVec 32 := 0#32
  let v460 : BitVec 1 := Scalar.cmpi .slt v456 c0_i32_315
  let v461 : BitVec 1 := Scalar.xori v459 v460
  let c0_i32_313 : BitVec 32 := 0#32
  let v458 : BitVec 1 := Scalar.cmpi .ne v457 c0_i32_313
  let v462 : BitVec 1 := Scalar.andi v461 v458
  let v463 : BitVec 32 := Scalar.addi v457 v456
  let v464 : BitVec 32 := Scalar.select v462 v463 v457
  let v465 : BitVec 32 := Scalar.addi v453 v464
  let c192_i32_316 : BitVec 32 := 192#32
  let v466 : BitVec 32 := Scalar.muli v465 c192_i32_316
  let v467 : Index := Scalar.indexCast v466
  let c0_317 : Index := 0#32
  ![v467.toNat, 0]
def k0_dev10 (d0 : Dev nD) : Nat :=
  let c0_i32_329 : BitVec 32 := 0#32
  let c4_i32_41 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v92 : BitVec 32 := Scalar.muli c4_i32_41 v74
  let c2_i32_42 : BitVec 32 := 2#32
  let c1_i32_40 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v91 : BitVec 32 := Scalar.subi c1_i32_40 v57
  let v93 : BitVec 32 := Scalar.muli c2_i32_42 v91
  let v94 : BitVec 32 := Scalar.addi v92 v93
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v95 : BitVec 32 := Scalar.addi v40 v91
  let c2_i32_43 : BitVec 32 := 2#32
  let c0_i32_44 : BitVec 32 := 0#32
  let v96 : BitVec 1 := Scalar.cmpi .eq c2_i32_43 c0_i32_44
  let c1_i32_45 : BitVec 32 := 1#32
  let v97 : BitVec 32 := Scalar.select v96 c1_i32_45 c2_i32_43
  let v98 : BitVec 32 := Scalar.remsi v95 v97
  let c0_i32_47 : BitVec 32 := 0#32
  let v100 : BitVec 1 := Scalar.cmpi .slt v98 c0_i32_47
  let c0_i32_48 : BitVec 32 := 0#32
  let v101 : BitVec 1 := Scalar.cmpi .slt v97 c0_i32_48
  let v102 : BitVec 1 := Scalar.xori v100 v101
  let c0_i32_46 : BitVec 32 := 0#32
  let v99 : BitVec 1 := Scalar.cmpi .ne v98 c0_i32_46
  let v103 : BitVec 1 := Scalar.andi v102 v99
  let v104 : BitVec 32 := Scalar.addi v98 v97
  let v105 : BitVec 32 := Scalar.select v103 v104 v98
  let v106 : BitVec 32 := Scalar.addi v94 v105
  let c1_i32_328 : BitVec 32 := 1#32
  let v477 : BitVec 32 := Scalar.muli v106 c1_i32_328
  let v478 : BitVec 32 := Scalar.addi c0_i32_329 v477
  v478.toNat
def k0_dev11 (d0 : Dev nD) : Nat :=
  let c0_i32_359 : BitVec 32 := 0#32
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v107 : BitVec 32 := Scalar.subi c1_i32_49 v74
  let v108 : BitVec 32 := Scalar.muli c4_i32_50 v107
  let c2_i32_51 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v109 : BitVec 32 := Scalar.muli c2_i32_51 v57
  let v110 : BitVec 32 := Scalar.addi v108 v109
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v111 : BitVec 32 := Scalar.addi v40 v57
  let c2_i32_52 : BitVec 32 := 2#32
  let c0_i32_53 : BitVec 32 := 0#32
  let v112 : BitVec 1 := Scalar.cmpi .eq c2_i32_52 c0_i32_53
  let c1_i32_54 : BitVec 32 := 1#32
  let v113 : BitVec 32 := Scalar.select v112 c1_i32_54 c2_i32_52
  let v114 : BitVec 32 := Scalar.remsi v111 v113
  let c0_i32_56 : BitVec 32 := 0#32
  let v116 : BitVec 1 := Scalar.cmpi .slt v114 c0_i32_56
  let c0_i32_57 : BitVec 32 := 0#32
  let v117 : BitVec 1 := Scalar.cmpi .slt v113 c0_i32_57
  let v118 : BitVec 1 := Scalar.xori v116 v117
  let c0_i32_55 : BitVec 32 := 0#32
  let v115 : BitVec 1 := Scalar.cmpi .ne v114 c0_i32_55
  let v119 : BitVec 1 := Scalar.andi v118 v115
  let v120 : BitVec 32 := Scalar.addi v114 v113
  let v121 : BitVec 32 := Scalar.select v119 v120 v114
  let v122 : BitVec 32 := Scalar.addi v110 v121
  let c1_i32_358 : BitVec 32 := 1#32
  let v513 : BitVec 32 := Scalar.muli v122 c1_i32_358
  let v514 : BitVec 32 := Scalar.addi c0_i32_359 v513
  v514.toNat
def k0_off7 (d0 : Dev nD) : Fin 2 → Nat :=
  let c4_i32_367 : BitVec 32 := 4#32
  let c1_i32_366 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v521 : BitVec 32 := Scalar.subi c1_i32_366 v74
  let v522 : BitVec 32 := Scalar.muli c4_i32_367 v521
  let c2_i32_368 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v523 : BitVec 32 := Scalar.muli c2_i32_368 v57
  let v524 : BitVec 32 := Scalar.addi v522 v523
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v525 : BitVec 32 := Scalar.addi v40 v57
  let c2_i32_369 : BitVec 32 := 2#32
  let c0_i32_370 : BitVec 32 := 0#32
  let v526 : BitVec 1 := Scalar.cmpi .eq c2_i32_369 c0_i32_370
  let c1_i32_371 : BitVec 32 := 1#32
  let v527 : BitVec 32 := Scalar.select v526 c1_i32_371 c2_i32_369
  let v528 : BitVec 32 := Scalar.remsi v525 v527
  let c0_i32_373 : BitVec 32 := 0#32
  let v530 : BitVec 1 := Scalar.cmpi .slt v528 c0_i32_373
  let c0_i32_374 : BitVec 32 := 0#32
  let v531 : BitVec 1 := Scalar.cmpi .slt v527 c0_i32_374
  let v532 : BitVec 1 := Scalar.xori v530 v531
  let c0_i32_372 : BitVec 32 := 0#32
  let v529 : BitVec 1 := Scalar.cmpi .ne v528 c0_i32_372
  let v533 : BitVec 1 := Scalar.andi v532 v529
  let v534 : BitVec 32 := Scalar.addi v528 v527
  let v535 : BitVec 32 := Scalar.select v533 v534 v528
  let v536 : BitVec 32 := Scalar.addi v524 v535
  let c192_i32_375 : BitVec 32 := 192#32
  let v537 : BitVec 32 := Scalar.muli v536 c192_i32_375
  let v538 : Index := Scalar.indexCast v537
  let c0_376 : Index := 0#32
  ![v538.toNat, 0]
def k0_dev12 (d0 : Dev nD) : Nat :=
  let c0_i32_388 : BitVec 32 := 0#32
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v107 : BitVec 32 := Scalar.subi c1_i32_49 v74
  let v108 : BitVec 32 := Scalar.muli c4_i32_50 v107
  let c2_i32_51 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v109 : BitVec 32 := Scalar.muli c2_i32_51 v57
  let v110 : BitVec 32 := Scalar.addi v108 v109
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v111 : BitVec 32 := Scalar.addi v40 v57
  let c2_i32_52 : BitVec 32 := 2#32
  let c0_i32_53 : BitVec 32 := 0#32
  let v112 : BitVec 1 := Scalar.cmpi .eq c2_i32_52 c0_i32_53
  let c1_i32_54 : BitVec 32 := 1#32
  let v113 : BitVec 32 := Scalar.select v112 c1_i32_54 c2_i32_52
  let v114 : BitVec 32 := Scalar.remsi v111 v113
  let c0_i32_56 : BitVec 32 := 0#32
  let v116 : BitVec 1 := Scalar.cmpi .slt v114 c0_i32_56
  let c0_i32_57 : BitVec 32 := 0#32
  let v117 : BitVec 1 := Scalar.cmpi .slt v113 c0_i32_57
  let v118 : BitVec 1 := Scalar.xori v116 v117
  let c0_i32_55 : BitVec 32 := 0#32
  let v115 : BitVec 1 := Scalar.cmpi .ne v114 c0_i32_55
  let v119 : BitVec 1 := Scalar.andi v118 v115
  let v120 : BitVec 32 := Scalar.addi v114 v113
  let v121 : BitVec 32 := Scalar.select v119 v120 v114
  let v122 : BitVec 32 := Scalar.addi v110 v121
  let c1_i32_387 : BitVec 32 := 1#32
  let v548 : BitVec 32 := Scalar.muli v122 c1_i32_387
  let v549 : BitVec 32 := Scalar.addi c0_i32_388 v548
  v549.toNat
def k0_off8 (d0 : Dev nD) : Fin 2 → Nat :=
  let c4_i32_555 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v781 : BitVec 32 := Scalar.muli c4_i32_555 v74
  let c2_i32_556 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v782 : BitVec 32 := Scalar.muli c2_i32_556 v57
  let v783 : BitVec 32 := Scalar.addi v781 v782
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v784 : BitVec 32 := Scalar.addi v40 v57
  let c2_i32_557 : BitVec 32 := 2#32
  let c0_i32_558 : BitVec 32 := 0#32
  let v785 : BitVec 1 := Scalar.cmpi .eq c2_i32_557 c0_i32_558
  let c1_i32_559 : BitVec 32 := 1#32
  let v786 : BitVec 32 := Scalar.select v785 c1_i32_559 c2_i32_557
  let v787 : BitVec 32 := Scalar.remsi v784 v786
  let c0_i32_561 : BitVec 32 := 0#32
  let v789 : BitVec 1 := Scalar.cmpi .slt v787 c0_i32_561
  let c0_i32_562 : BitVec 32 := 0#32
  let v790 : BitVec 1 := Scalar.cmpi .slt v786 c0_i32_562
  let v791 : BitVec 1 := Scalar.xori v789 v790
  let c0_i32_560 : BitVec 32 := 0#32
  let v788 : BitVec 1 := Scalar.cmpi .ne v787 c0_i32_560
  let v792 : BitVec 1 := Scalar.andi v791 v788
  let v793 : BitVec 32 := Scalar.addi v787 v786
  let v794 : BitVec 32 := Scalar.select v792 v793 v787
  let v795 : BitVec 32 := Scalar.addi v783 v794
  let c192_i32_563 : BitVec 32 := 192#32
  let v796 : BitVec 32 := Scalar.muli v795 c192_i32_563
  let v797 : Index := Scalar.indexCast v796
  let c0_564 : Index := 0#32
  ![v797.toNat, 0]
def k0_dev13 (d0 : Dev nD) : Nat :=
  let c0_i32_629 : BitVec 32 := 0#32
  let c4_i32_41 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v92 : BitVec 32 := Scalar.muli c4_i32_41 v74
  let c2_i32_42 : BitVec 32 := 2#32
  let c1_i32_40 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v91 : BitVec 32 := Scalar.subi c1_i32_40 v57
  let v93 : BitVec 32 := Scalar.muli c2_i32_42 v91
  let v94 : BitVec 32 := Scalar.addi v92 v93
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v95 : BitVec 32 := Scalar.addi v40 v91
  let c2_i32_43 : BitVec 32 := 2#32
  let c0_i32_44 : BitVec 32 := 0#32
  let v96 : BitVec 1 := Scalar.cmpi .eq c2_i32_43 c0_i32_44
  let c1_i32_45 : BitVec 32 := 1#32
  let v97 : BitVec 32 := Scalar.select v96 c1_i32_45 c2_i32_43
  let v98 : BitVec 32 := Scalar.remsi v95 v97
  let c0_i32_47 : BitVec 32 := 0#32
  let v100 : BitVec 1 := Scalar.cmpi .slt v98 c0_i32_47
  let c0_i32_48 : BitVec 32 := 0#32
  let v101 : BitVec 1 := Scalar.cmpi .slt v97 c0_i32_48
  let v102 : BitVec 1 := Scalar.xori v100 v101
  let c0_i32_46 : BitVec 32 := 0#32
  let v99 : BitVec 1 := Scalar.cmpi .ne v98 c0_i32_46
  let v103 : BitVec 1 := Scalar.andi v102 v99
  let v104 : BitVec 32 := Scalar.addi v98 v97
  let v105 : BitVec 32 := Scalar.select v103 v104 v98
  let v106 : BitVec 32 := Scalar.addi v94 v105
  let c1_i32_628 : BitVec 32 := 1#32
  let v866 : BitVec 32 := Scalar.muli v106 c1_i32_628
  let v867 : BitVec 32 := Scalar.addi c0_i32_629 v866
  v867.toNat
def k0_dev14 (d0 : Dev nD) : Nat :=
  let c0_i32_650 : BitVec 32 := 0#32
  let c4_i32_41 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v92 : BitVec 32 := Scalar.muli c4_i32_41 v74
  let c2_i32_42 : BitVec 32 := 2#32
  let c1_i32_40 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v91 : BitVec 32 := Scalar.subi c1_i32_40 v57
  let v93 : BitVec 32 := Scalar.muli c2_i32_42 v91
  let v94 : BitVec 32 := Scalar.addi v92 v93
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v95 : BitVec 32 := Scalar.addi v40 v91
  let c2_i32_43 : BitVec 32 := 2#32
  let c0_i32_44 : BitVec 32 := 0#32
  let v96 : BitVec 1 := Scalar.cmpi .eq c2_i32_43 c0_i32_44
  let c1_i32_45 : BitVec 32 := 1#32
  let v97 : BitVec 32 := Scalar.select v96 c1_i32_45 c2_i32_43
  let v98 : BitVec 32 := Scalar.remsi v95 v97
  let c0_i32_47 : BitVec 32 := 0#32
  let v100 : BitVec 1 := Scalar.cmpi .slt v98 c0_i32_47
  let c0_i32_48 : BitVec 32 := 0#32
  let v101 : BitVec 1 := Scalar.cmpi .slt v97 c0_i32_48
  let v102 : BitVec 1 := Scalar.xori v100 v101
  let c0_i32_46 : BitVec 32 := 0#32
  let v99 : BitVec 1 := Scalar.cmpi .ne v98 c0_i32_46
  let v103 : BitVec 1 := Scalar.andi v102 v99
  let v104 : BitVec 32 := Scalar.addi v98 v97
  let v105 : BitVec 32 := Scalar.select v103 v104 v98
  let v106 : BitVec 32 := Scalar.addi v94 v105
  let c1_i32_649 : BitVec 32 := 1#32
  let v884 : BitVec 32 := Scalar.muli v106 c1_i32_649
  let v885 : BitVec 32 := Scalar.addi c0_i32_650 v884
  v885.toNat
def k0_dev15 (d0 : Dev nD) : Nat :=
  let c0_i32_683 : BitVec 32 := 0#32
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v107 : BitVec 32 := Scalar.subi c1_i32_49 v74
  let v108 : BitVec 32 := Scalar.muli c4_i32_50 v107
  let c2_i32_51 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v109 : BitVec 32 := Scalar.muli c2_i32_51 v57
  let v110 : BitVec 32 := Scalar.addi v108 v109
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v111 : BitVec 32 := Scalar.addi v40 v57
  let c2_i32_52 : BitVec 32 := 2#32
  let c0_i32_53 : BitVec 32 := 0#32
  let v112 : BitVec 1 := Scalar.cmpi .eq c2_i32_52 c0_i32_53
  let c1_i32_54 : BitVec 32 := 1#32
  let v113 : BitVec 32 := Scalar.select v112 c1_i32_54 c2_i32_52
  let v114 : BitVec 32 := Scalar.remsi v111 v113
  let c0_i32_56 : BitVec 32 := 0#32
  let v116 : BitVec 1 := Scalar.cmpi .slt v114 c0_i32_56
  let c0_i32_57 : BitVec 32 := 0#32
  let v117 : BitVec 1 := Scalar.cmpi .slt v113 c0_i32_57
  let v118 : BitVec 1 := Scalar.xori v116 v117
  let c0_i32_55 : BitVec 32 := 0#32
  let v115 : BitVec 1 := Scalar.cmpi .ne v114 c0_i32_55
  let v119 : BitVec 1 := Scalar.andi v118 v115
  let v120 : BitVec 32 := Scalar.addi v114 v113
  let v121 : BitVec 32 := Scalar.select v119 v120 v114
  let v122 : BitVec 32 := Scalar.addi v110 v121
  let c1_i32_682 : BitVec 32 := 1#32
  let v908 : BitVec 32 := Scalar.muli v122 c1_i32_682
  let v909 : BitVec 32 := Scalar.addi c0_i32_683 v908
  v909.toNat
def k0_dev16 (d0 : Dev nD) : Nat :=
  let c0_i32_704 : BitVec 32 := 0#32
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v107 : BitVec 32 := Scalar.subi c1_i32_49 v74
  let v108 : BitVec 32 := Scalar.muli c4_i32_50 v107
  let c2_i32_51 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v109 : BitVec 32 := Scalar.muli c2_i32_51 v57
  let v110 : BitVec 32 := Scalar.addi v108 v109
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v111 : BitVec 32 := Scalar.addi v40 v57
  let c2_i32_52 : BitVec 32 := 2#32
  let c0_i32_53 : BitVec 32 := 0#32
  let v112 : BitVec 1 := Scalar.cmpi .eq c2_i32_52 c0_i32_53
  let c1_i32_54 : BitVec 32 := 1#32
  let v113 : BitVec 32 := Scalar.select v112 c1_i32_54 c2_i32_52
  let v114 : BitVec 32 := Scalar.remsi v111 v113
  let c0_i32_56 : BitVec 32 := 0#32
  let v116 : BitVec 1 := Scalar.cmpi .slt v114 c0_i32_56
  let c0_i32_57 : BitVec 32 := 0#32
  let v117 : BitVec 1 := Scalar.cmpi .slt v113 c0_i32_57
  let v118 : BitVec 1 := Scalar.xori v116 v117
  let c0_i32_55 : BitVec 32 := 0#32
  let v115 : BitVec 1 := Scalar.cmpi .ne v114 c0_i32_55
  let v119 : BitVec 1 := Scalar.andi v118 v115
  let v120 : BitVec 32 := Scalar.addi v114 v113
  let v121 : BitVec 32 := Scalar.select v119 v120 v114
  let v122 : BitVec 32 := Scalar.addi v110 v121
  let c1_i32_703 : BitVec 32 := 1#32
  let v926 : BitVec 32 := Scalar.muli v122 c1_i32_703
  let v927 : BitVec 32 := Scalar.addi c0_i32_704 v926
  v927.toNat
def k0_dev17 (d0 : Dev nD) : Nat :=
  let c0_i32_737 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v76 : BitVec 32 := Scalar.muli c4_i32_32 v74
  let c2_i32_33 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v77 : BitVec 32 := Scalar.muli c2_i32_33 v57
  let v78 : BitVec 32 := Scalar.addi v76 v77
  let c1_i32_31 : BitVec 32 := 1#32
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v75 : BitVec 32 := Scalar.subi c1_i32_31 v40
  let v79 : BitVec 32 := Scalar.addi v75 v57
  let c2_i32_34 : BitVec 32 := 2#32
  let c0_i32_35 : BitVec 32 := 0#32
  let v80 : BitVec 1 := Scalar.cmpi .eq c2_i32_34 c0_i32_35
  let c1_i32_36 : BitVec 32 := 1#32
  let v81 : BitVec 32 := Scalar.select v80 c1_i32_36 c2_i32_34
  let v82 : BitVec 32 := Scalar.remsi v79 v81
  let c0_i32_38 : BitVec 32 := 0#32
  let v84 : BitVec 1 := Scalar.cmpi .slt v82 c0_i32_38
  let c0_i32_39 : BitVec 32 := 0#32
  let v85 : BitVec 1 := Scalar.cmpi .slt v81 c0_i32_39
  let v86 : BitVec 1 := Scalar.xori v84 v85
  let c0_i32_37 : BitVec 32 := 0#32
  let v83 : BitVec 1 := Scalar.cmpi .ne v82 c0_i32_37
  let v87 : BitVec 1 := Scalar.andi v86 v83
  let v88 : BitVec 32 := Scalar.addi v82 v81
  let v89 : BitVec 32 := Scalar.select v87 v88 v82
  let v90 : BitVec 32 := Scalar.addi v78 v89
  let c1_i32_736 : BitVec 32 := 1#32
  let v950 : BitVec 32 := Scalar.muli v90 c1_i32_736
  let v951 : BitVec 32 := Scalar.addi c0_i32_737 v950
  v951.toNat
def k0_dev18 (d0 : Dev nD) : Nat :=
  let c0_i32_758 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v76 : BitVec 32 := Scalar.muli c4_i32_32 v74
  let c2_i32_33 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v77 : BitVec 32 := Scalar.muli c2_i32_33 v57
  let v78 : BitVec 32 := Scalar.addi v76 v77
  let c1_i32_31 : BitVec 32 := 1#32
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v75 : BitVec 32 := Scalar.subi c1_i32_31 v40
  let v79 : BitVec 32 := Scalar.addi v75 v57
  let c2_i32_34 : BitVec 32 := 2#32
  let c0_i32_35 : BitVec 32 := 0#32
  let v80 : BitVec 1 := Scalar.cmpi .eq c2_i32_34 c0_i32_35
  let c1_i32_36 : BitVec 32 := 1#32
  let v81 : BitVec 32 := Scalar.select v80 c1_i32_36 c2_i32_34
  let v82 : BitVec 32 := Scalar.remsi v79 v81
  let c0_i32_38 : BitVec 32 := 0#32
  let v84 : BitVec 1 := Scalar.cmpi .slt v82 c0_i32_38
  let c0_i32_39 : BitVec 32 := 0#32
  let v85 : BitVec 1 := Scalar.cmpi .slt v81 c0_i32_39
  let v86 : BitVec 1 := Scalar.xori v84 v85
  let c0_i32_37 : BitVec 32 := 0#32
  let v83 : BitVec 1 := Scalar.cmpi .ne v82 c0_i32_37
  let v87 : BitVec 1 := Scalar.andi v86 v83
  let v88 : BitVec 32 := Scalar.addi v82 v81
  let v89 : BitVec 32 := Scalar.select v87 v88 v82
  let v90 : BitVec 32 := Scalar.addi v78 v89
  let c1_i32_757 : BitVec 32 := 1#32
  let v968 : BitVec 32 := Scalar.muli v90 c1_i32_757
  let v969 : BitVec 32 := Scalar.addi c0_i32_758 v968
  v969.toNat
def k0_dev19 (d0 : Dev nD) : Nat :=
  let c0_i32_829 : BitVec 32 := 0#32
  let c4_i32_50 : BitVec 32 := 4#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v107 : BitVec 32 := Scalar.subi c1_i32_49 v74
  let v108 : BitVec 32 := Scalar.muli c4_i32_50 v107
  let c2_i32_51 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v109 : BitVec 32 := Scalar.muli c2_i32_51 v57
  let v110 : BitVec 32 := Scalar.addi v108 v109
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v111 : BitVec 32 := Scalar.addi v40 v57
  let c2_i32_52 : BitVec 32 := 2#32
  let c0_i32_53 : BitVec 32 := 0#32
  let v112 : BitVec 1 := Scalar.cmpi .eq c2_i32_52 c0_i32_53
  let c1_i32_54 : BitVec 32 := 1#32
  let v113 : BitVec 32 := Scalar.select v112 c1_i32_54 c2_i32_52
  let v114 : BitVec 32 := Scalar.remsi v111 v113
  let c0_i32_56 : BitVec 32 := 0#32
  let v116 : BitVec 1 := Scalar.cmpi .slt v114 c0_i32_56
  let c0_i32_57 : BitVec 32 := 0#32
  let v117 : BitVec 1 := Scalar.cmpi .slt v113 c0_i32_57
  let v118 : BitVec 1 := Scalar.xori v116 v117
  let c0_i32_55 : BitVec 32 := 0#32
  let v115 : BitVec 1 := Scalar.cmpi .ne v114 c0_i32_55
  let v119 : BitVec 1 := Scalar.andi v118 v115
  let v120 : BitVec 32 := Scalar.addi v114 v113
  let v121 : BitVec 32 := Scalar.select v119 v120 v114
  let v122 : BitVec 32 := Scalar.addi v110 v121
  let c1_i32_828 : BitVec 32 := 1#32
  let v1014 : BitVec 32 := Scalar.muli v122 c1_i32_828
  let v1015 : BitVec 32 := Scalar.addi c0_i32_829 v1014
  v1015.toNat
def k0_dev20 (d0 : Dev nD) : Nat :=
  let c0_i32_865 : BitVec 32 := 0#32
  let c4_i32_32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v76 : BitVec 32 := Scalar.muli c4_i32_32 v74
  let c2_i32_33 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v77 : BitVec 32 := Scalar.muli c2_i32_33 v57
  let v78 : BitVec 32 := Scalar.addi v76 v77
  let c1_i32_31 : BitVec 32 := 1#32
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v75 : BitVec 32 := Scalar.subi c1_i32_31 v40
  let v79 : BitVec 32 := Scalar.addi v75 v57
  let c2_i32_34 : BitVec 32 := 2#32
  let c0_i32_35 : BitVec 32 := 0#32
  let v80 : BitVec 1 := Scalar.cmpi .eq c2_i32_34 c0_i32_35
  let c1_i32_36 : BitVec 32 := 1#32
  let v81 : BitVec 32 := Scalar.select v80 c1_i32_36 c2_i32_34
  let v82 : BitVec 32 := Scalar.remsi v79 v81
  let c0_i32_38 : BitVec 32 := 0#32
  let v84 : BitVec 1 := Scalar.cmpi .slt v82 c0_i32_38
  let c0_i32_39 : BitVec 32 := 0#32
  let v85 : BitVec 1 := Scalar.cmpi .slt v81 c0_i32_39
  let v86 : BitVec 1 := Scalar.xori v84 v85
  let c0_i32_37 : BitVec 32 := 0#32
  let v83 : BitVec 1 := Scalar.cmpi .ne v82 c0_i32_37
  let v87 : BitVec 1 := Scalar.andi v86 v83
  let v88 : BitVec 32 := Scalar.addi v82 v81
  let v89 : BitVec 32 := Scalar.select v87 v88 v82
  let v90 : BitVec 32 := Scalar.addi v78 v89
  let c1_i32_864 : BitVec 32 := 1#32
  let v1042 : BitVec 32 := Scalar.muli v90 c1_i32_864
  let v1043 : BitVec 32 := Scalar.addi c0_i32_865 v1042
  v1043.toNat
def k0_dev21 (d0 : Dev nD) : Nat :=
  let c0_i32_901 : BitVec 32 := 0#32
  let c4_i32_41 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_25 : BitVec 32 := 0#32
  let v59 : BitVec 1 := Scalar.cmpi .sgt v2 c0_i32_25
  let v60 : BitVec 32 := Scalar.extui v59
  let c0_i32_26 : BitVec 32 := 0#32
  let v61 : BitVec 1 := Scalar.cmpi .slt v2 c0_i32_26
  let v62 : BitVec 32 := Scalar.extui v61
  let v63 : BitVec 32 := Scalar.subi v60 v62
  let c4_i32_24 : BitVec 32 := 4#32
  let c0_i32_27 : BitVec 32 := 0#32
  let v64 : BitVec 1 := Scalar.cmpi .sgt c4_i32_24 c0_i32_27
  let v65 : BitVec 32 := Scalar.extui v64
  let c0_i32_28 : BitVec 32 := 0#32
  let v66 : BitVec 1 := Scalar.cmpi .slt c4_i32_24 c0_i32_28
  let v67 : BitVec 32 := Scalar.extui v66
  let v68 : BitVec 32 := Scalar.subi v65 v67
  let v69 : BitVec 1 := Scalar.cmpi .ne v63 v68
  let v70 : BitVec 32 := Scalar.remsi v2 c4_i32_24
  let c0_i32_29 : BitVec 32 := 0#32
  let v71 : BitVec 1 := Scalar.cmpi .ne v70 c0_i32_29
  let v72 : BitVec 1 := Scalar.andi v69 v71
  let v58 : BitVec 32 := Scalar.divsi v2 c4_i32_24
  let c1_i32_30 : BitVec 32 := 1#32
  let v73 : BitVec 32 := Scalar.subi v58 c1_i32_30
  let v74 : BitVec 32 := Scalar.select v72 v73 v58
  let v92 : BitVec 32 := Scalar.muli c4_i32_41 v74
  let c2_i32_42 : BitVec 32 := 2#32
  let c1_i32_40 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_18 : BitVec 32 := 0#32
  let v42 : BitVec 1 := Scalar.cmpi .sgt v12 c0_i32_18
  let v43 : BitVec 32 := Scalar.extui v42
  let c0_i32_19 : BitVec 32 := 0#32
  let v44 : BitVec 1 := Scalar.cmpi .slt v12 c0_i32_19
  let v45 : BitVec 32 := Scalar.extui v44
  let v46 : BitVec 32 := Scalar.subi v43 v45
  let c2_i32_17 : BitVec 32 := 2#32
  let c0_i32_20 : BitVec 32 := 0#32
  let v47 : BitVec 1 := Scalar.cmpi .sgt c2_i32_17 c0_i32_20
  let v48 : BitVec 32 := Scalar.extui v47
  let c0_i32_21 : BitVec 32 := 0#32
  let v49 : BitVec 1 := Scalar.cmpi .slt c2_i32_17 c0_i32_21
  let v50 : BitVec 32 := Scalar.extui v49
  let v51 : BitVec 32 := Scalar.subi v48 v50
  let v52 : BitVec 1 := Scalar.cmpi .ne v46 v51
  let v53 : BitVec 32 := Scalar.remsi v12 c2_i32_17
  let c0_i32_22 : BitVec 32 := 0#32
  let v54 : BitVec 1 := Scalar.cmpi .ne v53 c0_i32_22
  let v55 : BitVec 1 := Scalar.andi v52 v54
  let v41 : BitVec 32 := Scalar.divsi v12 c2_i32_17
  let c1_i32_23 : BitVec 32 := 1#32
  let v56 : BitVec 32 := Scalar.subi v41 c1_i32_23
  let v57 : BitVec 32 := Scalar.select v55 v56 v41
  let v91 : BitVec 32 := Scalar.subi c1_i32_40 v57
  let v93 : BitVec 32 := Scalar.muli c2_i32_42 v91
  let v94 : BitVec 32 := Scalar.addi v92 v93
  let c1_i32_4 : BitVec 32 := 1#32
  let v13 : BitVec 32 := Scalar.addi v12 c1_i32_4
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c2_i32 : BitVec 32 := 2#32
  let c0_i32_7 : BitVec 32 := 0#32
  let v20 : BitVec 1 := Scalar.cmpi .sgt c2_i32 c0_i32_7
  let v21 : BitVec 32 := Scalar.extui v20
  let c0_i32_8 : BitVec 32 := 0#32
  let v22 : BitVec 1 := Scalar.cmpi .slt c2_i32 c0_i32_8
  let v23 : BitVec 32 := Scalar.extui v22
  let v24 : BitVec 32 := Scalar.subi v21 v23
  let v25 : BitVec 1 := Scalar.cmpi .ne v19 v24
  let v26 : BitVec 32 := Scalar.remsi v13 c2_i32
  let c0_i32_9 : BitVec 32 := 0#32
  let v27 : BitVec 1 := Scalar.cmpi .ne v26 c0_i32_9
  let v28 : BitVec 1 := Scalar.andi v25 v27
  let v14 : BitVec 32 := Scalar.divsi v13 c2_i32
  let c1_i32_10 : BitVec 32 := 1#32
  let v29 : BitVec 32 := Scalar.subi v14 c1_i32_10
  let v30 : BitVec 32 := Scalar.select v28 v29 v14
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v95 : BitVec 32 := Scalar.addi v40 v91
  let c2_i32_43 : BitVec 32 := 2#32
  let c0_i32_44 : BitVec 32 := 0#32
  let v96 : BitVec 1 := Scalar.cmpi .eq c2_i32_43 c0_i32_44
  let c1_i32_45 : BitVec 32 := 1#32
  let v97 : BitVec 32 := Scalar.select v96 c1_i32_45 c2_i32_43
  let v98 : BitVec 32 := Scalar.remsi v95 v97
  let c0_i32_47 : BitVec 32 := 0#32
  let v100 : BitVec 1 := Scalar.cmpi .slt v98 c0_i32_47
  let c0_i32_48 : BitVec 32 := 0#32
  let v101 : BitVec 1 := Scalar.cmpi .slt v97 c0_i32_48
  let v102 : BitVec 1 := Scalar.xori v100 v101
  let c0_i32_46 : BitVec 32 := 0#32
  let v99 : BitVec 1 := Scalar.cmpi .ne v98 c0_i32_46
  let v103 : BitVec 1 := Scalar.andi v102 v99
  let v104 : BitVec 32 := Scalar.addi v98 v97
  let v105 : BitVec 32 := Scalar.select v103 v104 v98
  let v106 : BitVec 32 := Scalar.addi v94 v105
  let c1_i32_900 : BitVec 32 := 1#32
  let v1070 : BitVec 32 := Scalar.muli v106 c1_i32_900
  let v1071 : BitVec 32 := Scalar.addi c0_i32_901 v1070
  v1071.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x6144 : Shape := ⟨2, ![1536, 6144]⟩
abbrev S6144x1536 : Shape := ⟨2, ![6144, 1536]⟩
abbrev S1536x1536 : Shape := ⟨2, ![1536, 1536]⟩

abbrev nBuf : Space → Nat
  | .hbm => 3
  | .vmem => 0
  | .smem => 0
  | _ => 0

abbrev bufTy : (tb : Table) → Fin (tcTables nBuf tb) → BufTy
  | .hbm, ⟨0, _⟩ => ⟨S1536x6144, .f32⟩
  | .hbm, ⟨1, _⟩ => ⟨S6144x1536, .f32⟩
  | .hbm, ⟨2, _⟩ => ⟨S1536x1536, .f32⟩
  | _, _ => ⟨S1536x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Holds.lean ====
/-
Holding part of a memref at known contents.

`anyOn c m S` says that core `c` owns the elements of the memref `m` whose indices lie in `S`, at some contents;
`holds c m S X` that it owns them and that each holds what the function `X` on the memref's indices says. A load, a
store and a remote copy are restated in these terms.
-/
module

public import Idealize.ShloMosaic.Lib.Memref
public import Idealize.ShloMosaic.Lib.Rounds
public import Idealize.ShloMosaic.Lib.Tactic

@[expose] public section

noncomputable section

namespace Cert.Holds

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

section Defs

variable (c : Thread nD τ) {sp : Space} {sh : Shape} {e : EltTy} (m : Memref sig c.2.kind sp sh e)

/-- Core `c` owns the elements of `m` at the indices `S`, whatever they hold. -/
def anyOn (S : Finset sh.Idx) : sProp 𝕄 :=
  iprop(∃ f, (m.view.loc c ↦[m.view.setOn S]{fullShare} f))

/-- Core `c` owns the elements of `m` at the indices `S`, and they hold what `X` says. -/
def holds (S : Finset sh.Idx) (X : sh.Idx → Val e) : sProp 𝕄 :=
  iprop(∃ f, ⌜∀ x ∈ S, m.view.read Val f x = X x⌝ ∗ (m.view.loc c ↦[m.view.setOn S]{fullShare} f))

/-- An invariant may hold part of a memref at any contents, -/
instance anyOn_storable (S : Finset sh.Idx) : BI.Storable (upEmb : UEmb _ 𝕄) (anyOn c m S) := by
  unfold anyOn; infer_instance

/-- or at known contents. -/
instance holds_storable (S : Finset sh.Idx) (X : sh.Idx → Val e) : BI.Storable (upEmb : UEmb _ 𝕄) (holds c m S X) := by
  unfold holds; infer_instance

/-- What is held at known contents is held at some contents. -/
theorem holds_any (S : Finset sh.Idx) (X : sh.Idx → Val e) : (holds c m S X : sProp 𝕄) ⊢ anyOn c m S := by
  unfold holds anyOn
  iintro ⟨%f, -, H⟩
  iexists f
  iexact H

omit [DecidableEq Ix] [DecidableEq Name] [URA U] in
/-- The elements at either of two sets of indices are those at the one and those at the other, -/
theorem setOn_union (S T : Finset sh.Idx) : m.view.setOn (S ∪ T) = m.view.setOn S ∪ m.view.setOn T :=
  Finset.map_union _ _

omit [DecidableEq Ix] [DecidableEq Name] [URA U] in
/-- and disjoint sets of indices have disjoint elements. -/
theorem setOn_disj {S T : Finset sh.Idx} (h : Disjoint S T) : Disjoint (m.view.setOn S) (m.view.setOn T) :=
  (Finset.disjoint_map _).mpr h

/-- Disjoint parts are held separately, -/
theorem any_split {S T : Finset sh.Idx} (h : Disjoint S T) :
    (anyOn c m (S ∪ T) : sProp 𝕄) ⊢ iprop(anyOn c m S ∗ anyOn c m T) := by
  unfold anyOn
  rw [setOn_union]
  iintro ⟨%f, H⟩
  ihave H := (pointsTo_union (setOn_disj c m h)).1 $$ H
  icases H with ⟨H1, H2⟩
  isplitl [H1]
  · iexists f; iexact H1
  · iexists f; iexact H2

/-- and put together. -/
theorem any_join {S T : Finset sh.Idx} (h : Disjoint S T) :
    iprop(anyOn c m S ∗ anyOn c m T) ⊢ (anyOn c m (S ∪ T) : sProp 𝕄) := by
  unfold anyOn
  rw [setOn_union]
  iintro ⟨⟨%f, H1⟩, ⟨%g, H2⟩⟩
  iexists _
  iapply (pointsTo_join (setOn_disj c m h))
  isplitl [H1]; · iexact H1
  iexact H2

/-- Disjoint parts are held at known contents separately, -/
theorem holds_split {S T : Finset sh.Idx} (h : Disjoint S T) (X : sh.Idx → Val e) :
    (holds c m (S ∪ T) X : sProp 𝕄) ⊢ iprop(holds c m S X ∗ holds c m T X) := by
  unfold holds
  rw [setOn_union]
  iintro ⟨%f, %hf, H⟩
  ihave H := (pointsTo_union (setOn_disj c m h)).1 $$ H
  icases H with ⟨H1, H2⟩
  isplitl [H1]
  · iexists f; isplitr; · ipureintro; exact fun x hx => hf x (Finset.mem_union_left _ hx)
    iexact H1
  · iexists f; isplitr; · ipureintro; exact fun x hx => hf x (Finset.mem_union_right _ hx)
    iexact H2

/-- and put together. -/
theorem holds_join {S T : Finset sh.Idx} (h : Disjoint S T) (X : sh.Idx → Val e) :
    iprop(holds c m S X ∗ holds c m T X) ⊢ (holds c m (S ∪ T) X : sProp 𝕄) := by
  unfold holds
  rw [setOn_union]
  iintro ⟨⟨%f, %hf, H1⟩, ⟨%g, %hg, H2⟩⟩
  iexists (m.view.setOn T).piecewise g f
  isplitr
  · ipureintro
    intro x hx
    by_cases hxT : x ∈ T
    · have hi : m.view.emb x ∈ m.view.setOn T := m.view.mem_setOn.mpr hxT
      rw [← hg x hxT, View.read_apply, View.read_apply, Finset.piecewise_eq_of_mem _ _ _ hi]
    · have hi : m.view.emb x ∉ m.view.setOn T := fun hi => hxT (m.view.mem_setOn.mp hi)
      have hxS : x ∈ S := (Finset.mem_union.mp hx).resolve_right hxT
      rw [← hf x hxS, View.read_apply, View.read_apply, Finset.piecewise_eq_of_notMem _ _ _ hi]
  · iapply (pointsTo_join (setOn_disj c m h))
    isplitl [H1]; · iexact H1
    iexact H2

/-- Contents off the held part do not matter. -/
theorem holds_congr {S : Finset sh.Idx} {X Y : sh.Idx → Val e} (h : ∀ x ∈ S, X x = Y x) :
    (holds c m S X : sProp 𝕄) ⊢ holds c m S Y := by
  unfold holds
  iintro ⟨%f, %hf, H⟩
  iexists f
  isplitr; · ipureintro; exact fun x hx => (hf x hx).trans (h x hx)
  iexact H

end Defs

section Whole

variable (c : Thread nD τ) (b : Ref sig c.2.kind)

/-- A buffer's points-to is the whole of it held, -/
theorem any_whole (f : Buf Val (c.loc b)) :
    ((c.loc b) ↦{fullShare} f : sProp 𝕄) ⊢ anyOn c (Memref.whole b) Finset.univ := by
  unfold anyOn
  iintro H
  iexists f
  rw [show (Memref.whole b).view.setOn Finset.univ = (Memref.whole b).view.set from rfl]
  simp only [Memref.view_whole, View.set_whole]
  iexact H

/-- and back. -/
theorem whole_any : (anyOn c (Memref.whole b) Finset.univ : sProp 𝕄) ⊢ iprop(∃ f : Buf Val (c.loc b), (c.loc b) ↦{fullShare} f) := by
  unfold anyOn
  rw [show (Memref.whole b).view.setOn Finset.univ = (Memref.whole b).view.set from rfl]
  simp only [Memref.view_whole, View.set_whole]
  exact .rfl

/-- A buffer's points-to holds the whole of it at its contents, -/
theorem holds_whole (f : Buf Val (c.loc b)) :
    ((c.loc b) ↦{fullShare} f : sProp 𝕄) ⊢ holds c (Memref.whole b) Finset.univ f := by
  unfold holds
  iintro H
  iexists f
  isplitr; · ipureintro; intro x _; rfl
  rw [show (Memref.whole b).view.setOn Finset.univ = (Memref.whole b).view.set from rfl]
  simp only [Memref.view_whole, View.set_whole]
  iexact H

/-- and back. -/
theorem whole_holds (X : Buf Val (c.loc b)) :
    (holds c (Memref.whole b) Finset.univ X : sProp 𝕄) ⊢ ((c.loc b) ↦{fullShare} X) := by
  unfold holds
  rw [show (Memref.whole b).view.setOn Finset.univ = (Memref.whole b).view.set from rfl]
  simp only [Memref.view_whole, View.set_whole, View.read_whole]
  iintro ⟨%f, %hf, H⟩
  have h : f = X := funext fun x => hf x (Finset.mem_univ x)
  subst h
  iexact H

end Whole

section Rules

variable {Λ : Labels} [Preorder Lvl] {defs : Defs nD τ sig Val Λ} (𝒱 : Variants) (c : Thread nD τ)
  (bd : Option 𝒱.V) {Γ : PendingWaitsCtx sig Ix} (E : Set Name)
variable {sp sp' : Space} {sh : Shape} {e : EltTy}
variable {α : Type} {Q : α → sProp (MT nD τ sig Ix Val Name U Lvl)}

/-- A load of coordinates among those held continues at what is held there. -/
theorem wp_load_holds {cs : CoreSpace} {m : Memref sig c.2.kind cs sh e} {r : LoadRect sh} {hl : m.view.LoadsAt r}
    {k : (r.shape.Idx → Val e) → Prog (TpuEff nD τ sig Val Λ c.2) α} {S : Finset sh.Idx} {X : sh.Idx → Val e}
    (hS : r.set ⊆ S) :
    (holds c m S X)
      ⊢ iprop((holds c m S X -∗ wp frame (wpE' defs 𝒱 c bd Γ) E (k (fun i => X (r.idx i))) Q)
        -∗ wp frame (wpE' defs 𝒱 c bd Γ) E (.op (.load m r hl) k) Q) := by
  unfold holds
  iintro ⟨%f, %hf, H⟩ Hk
  iapply (wp_load 𝒱 c bd E (m := m) (S := m.view.setOn S) (Finset.map_subset_map.mpr hS)) $$ H
  iintro H
  have hr : m.view.readAt Val r f = fun i => X (r.idx i) :=
    funext fun i => by rw [View.readAt_apply, hf _ (hS (r.idx_mem i))]
  rw [hr]
  iapply Hk
  iexists f
  isplitr; · ipureintro; exact hf
  iexact H

/-- A load whose value nothing uses continues at any value. -/
theorem wp_load_any {cs : CoreSpace} {m : Memref sig c.2.kind cs sh e} {r : LoadRect sh} {hl : m.view.LoadsAt r}
    {p : Prog (TpuEff nD τ sig Val Λ c.2) α} {S : Finset sh.Idx} (hS : r.set ⊆ S) :
    (anyOn c m S)
      ⊢ iprop((anyOn c m S -∗ wp frame (wpE' defs 𝒱 c bd Γ) E p Q)
        -∗ wp frame (wpE' defs 𝒱 c bd Γ) E (.op (.load m r hl) (fun _ => p)) Q) := by
  unfold anyOn
  iintro ⟨%f, H⟩ Hk
  iapply (wp_load 𝒱 c bd E (m := m) (S := m.view.setOn S) (Finset.map_subset_map.mpr hS)) $$ H
  iintro H
  iapply Hk
  iexists f
  iexact H

/-- A store over a rectangle held at any contents leaves the rectangle holding what was stored. -/
theorem wp_store_any {cs : CoreSpace} {m : Memref sig c.2.kind cs sh e} {r : Rect sh} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} (X : sh.Idx → Val e) (hX : ∀ i, X (r.emb i) = w i) :
    (anyOn c m r.set)
      ⊢ iprop((holds c m r.set X -∗ wp frame (wpE' defs 𝒱 c bd Γ) E (k ⟨⟩) Q)
        -∗ wp frame (wpE' defs 𝒱 c bd Γ) E (.op (.store m r w Finset.univ hx hm) k) Q) := by
  unfold anyOn holds
  iintro ⟨%f, H⟩ Hk
  have hset : (m.access r).setOn Finset.univ = m.view.setOn r.set := View.set_slice _ _
  iapply (wp_store 𝒱 c bd E (m := m) (r := r) (Mk := Finset.univ) (S := m.view.setOn r.set) (hset ▸ subset_rfl)) $$ H
  iintro H
  iapply Hk
  iexists _
  isplitr
  · ipureintro
    intro x hx
    obtain ⟨i, rfl⟩ := r.exists_idx_of_mem hx
    exact (View.read_slice_write_emb (v := m.view) r f w (Finset.mem_univ i)).trans (hX i).symm
  iexact H

/-! ## A computing step: loads, a load nothing uses, and the store over it -/

/-- The set of a rectangle's load is its own. -/
theorem loadRect_set {s : Shape} (r : Rect s) : r.toLoadRect.set = r.set := rfl

/-- Loads from one buffer, and the store of a function of what they hold. -/
theorem wp_compute1 {cs : CoreSpace} {md : Memref sig c.2.kind cs sh e} {r : Rect sh}
    {sp1 : CoreSpace} {sh1 : Shape} {e1 : EltTy} {m1 : Memref sig c.2.kind sp1 sh1 e1} {r1 : Rect sh1} {hl1 : m1.view.LoadsAt r1.toLoadRect} {S1 : Finset sh1.Idx} {X1 : sh1.Idx → Val e1}
    {hl : md.view.LoadsAt r.toLoadRect} {hx : (md.access r).Stores Finset.univ} {hm : (Finset.univ : Finset r.shape.Idx) = Finset.univ ∨ ∀ a, r.stride a = 1}
    {pay : (r1.shape.Idx → Val e1) → (r.shape.Idx → Val e)} {p : Prog (TpuEff nD τ sig Val Λ c.2) α} (X : sh.Idx → Val e)
    (h1 : r1.set ⊆ S1)
    (hX : ∀ i, X (r.emb i) = pay (fun i => X1 (r1.idx i)) i) :
    (holds c m1 S1 X1)
      ⊢ iprop(anyOn c md r.set -∗ (holds c m1 S1 X1 ∗ holds c md r.set X -∗ wp frame (wpE' defs 𝒱 c bd Γ) E p Q)
        -∗ wp frame (wpE' defs 𝒱 c bd Γ) E
          (.op (.load m1 r1.toLoadRect hl1) fun v1 => (.op (.load md r.toLoadRect hl) fun _ => (.op (.store md r (pay v1) Finset.univ hx hm) fun _ => p))) Q) := by
  iintro H1 Hd Hk
  iapply (wp_load_holds 𝒱 c bd E (m := m1) (r := r1.toLoadRect) (X := X1) h1) $$ H1
  iintro H1
  iapply (wp_load_any 𝒱 c bd E (m := md) (r := r.toLoadRect) (S := r.set) subset_rfl) $$ Hd
  iintro Hd
  iapply (wp_store_any 𝒱 c bd E (m := md) (r := r) X hX) $$ Hd
  iintro Hd
  iapply Hk
  isplitl [H1]; · iexact H1
  iexact Hd

/-- Loads from two buffers, and the store of a function of what they hold. -/
theorem wp_compute2 {cs : CoreSpace} {md : Memref sig c.2.kind cs sh e} {r : Rect sh}
    {sp1 : CoreSpace} {sh1 : Shape} {e1 : EltTy} {m1 : Memref sig c.2.kind sp1 sh1 e1} {r1 : Rect sh1} {hl1 : m1.view.LoadsAt r1.toLoadRect} {S1 : Finset sh1.Idx} {X1 : sh1.Idx → Val e1}
    {sp2 : CoreSpace} {sh2 : Shape} {e2 : EltTy} {m2 : Memref sig c.2.kind sp2 sh2 e2} {r2 : Rect sh2} {hl2 : m2.view.LoadsAt r2.toLoadRect} {S2 : Finset sh2.Idx} {X2 : sh2.Idx → Val e2}
    {hl : md.view.LoadsAt r.toLoadRect} {hx : (md.access r).Stores Finset.univ} {hm : (Finset.univ : Finset r.shape.Idx) = Finset.univ ∨ ∀ a, r.stride a = 1}
    {pay : (r1.shape.Idx → Val e1) → (r2.shape.Idx → Val e2) → (r.shape.Idx → Val e)} {p : Prog (TpuEff nD τ sig Val Λ c.2) α} (X : sh.Idx → Val e)
    (h1 : r1.set ⊆ S1) (h2 : r2.set ⊆ S2)
    (hX : ∀ i, X (r.emb i) = pay (fun i => X1 (r1.idx i)) (fun i => X2 (r2.idx i)) i) :
    (holds c m1 S1 X1)
      ⊢ iprop(holds c m2 S2 X2 -∗ anyOn c md r.set -∗ (holds c m1 S1 X1 ∗ holds c m2 S2 X2 ∗ holds c md r.set X -∗ wp frame (wpE' defs 𝒱 c bd Γ) E p Q)
        -∗ wp frame (wpE' defs 𝒱 c bd Γ) E
          (.op (.load m1 r1.toLoadRect hl1) fun v1 => (.op (.load m2 r2.toLoadRect hl2) fun v2 => (.op (.load md r.toLoadRect hl) fun _ => (.op (.store md r (pay v1 v2) Finset.univ hx hm) fun _ => p)))) Q) := by
  iintro H1 H2 Hd Hk
  iapply (wp_load_holds 𝒱 c bd E (m := m1) (r := r1.toLoadRect) (X := X1) h1) $$ H1
  iintro H1
  iapply (wp_load_holds 𝒱 c bd E (m := m2) (r := r2.toLoadRect) (X := X2) h2) $$ H2
  iintro H2
  iapply (wp_load_any 𝒱 c bd E (m := md) (r := r.toLoadRect) (S := r.set) subset_rfl) $$ Hd
  iintro Hd
  iapply (wp_store_any 𝒱 c bd E (m := md) (r := r) X hX) $$ Hd
  iintro Hd
  iapply Hk
  isplitl [H1]; · iexact H1
  isplitl [H2]; · iexact H2
  iexact Hd

/-- Loads from three buffers, and the store of a function of what they hold. -/
theorem wp_compute3 {cs : CoreSpace} {md : Memref sig c.2.kind cs sh e} {r : Rect sh}
    {sp1 : CoreSpace} {sh1 : Shape} {e1 : EltTy} {m1 : Memref sig c.2.kind sp1 sh1 e1} {r1 : Rect sh1} {hl1 : m1.view.LoadsAt r1.toLoadRect} {S1 : Finset sh1.Idx} {X1 : sh1.Idx → Val e1}
    {sp2 : CoreSpace} {sh2 : Shape} {e2 : EltTy} {m2 : Memref sig c.2.kind sp2 sh2 e2} {r2 : Rect sh2} {hl2 : m2.view.LoadsAt r2.toLoadRect} {S2 : Finset sh2.Idx} {X2 : sh2.Idx → Val e2}
    {sp3 : CoreSpace} {sh3 : Shape} {e3 : EltTy} {m3 : Memref sig c.2.kind sp3 sh3 e3} {r3 : Rect sh3} {hl3 : m3.view.LoadsAt r3.toLoadRect} {S3 : Finset sh3.Idx} {X3 : sh3.Idx → Val e3}
    {hl : md.view.LoadsAt r.toLoadRect} {hx : (md.access r).Stores Finset.univ} {hm : (Finset.univ : Finset r.shape.Idx) = Finset.univ ∨ ∀ a, r.stride a = 1}
    {pay : (r1.shape.Idx → Val e1) → (r2.shape.Idx → Val e2) → (r3.shape.Idx → Val e3) → (r.shape.Idx → Val e)} {p : Prog (TpuEff nD τ sig Val Λ c.2) α} (X : sh.Idx → Val e)
    (h1 : r1.set ⊆ S1) (h2 : r2.set ⊆ S2) (h3 : r3.set ⊆ S3)
    (hX : ∀ i, X (r.emb i) = pay (fun i => X1 (r1.idx i)) (fun i => X2 (r2.idx i)) (fun i => X3 (r3.idx i)) i) :
    (holds c m1 S1 X1)
      ⊢ iprop(holds c m2 S2 X2 -∗ holds c m3 S3 X3 -∗ anyOn c md r.set -∗ (holds c m1 S1 X1 ∗ holds c m2 S2 X2 ∗ holds c m3 S3 X3 ∗ holds c md r.set X -∗ wp frame (wpE' defs 𝒱 c bd Γ) E p Q)
        -∗ wp frame (wpE' defs 𝒱 c bd Γ) E
          (.op (.load m1 r1.toLoadRect hl1) fun v1 => (.op (.load m2 r2.toLoadRect hl2) fun v2 => (.op (.load m3 r3.toLoadRect hl3) fun v3 => (.op (.load md r.toLoadRect hl) fun _ => (.op (.store md r (pay v1 v2 v3) Finset.univ hx hm) fun _ => p))))) Q) := by
  iintro H1 H2 H3 Hd Hk
  iapply (wp_load_holds 𝒱 c bd E (m := m1) (r := r1.toLoadRect) (X := X1) h1) $$ H1
  iintro H1
  iapply (wp_load_holds 𝒱 c bd E (m := m2) (r := r2.toLoadRect) (X := X2) h2) $$ H2
  iintro H2
  iapply (wp_load_holds 𝒱 c bd E (m := m3) (r := r3.toLoadRect) (X := X3) h3) $$ H3
  iintro H3
  iapply (wp_load_any 𝒱 c bd E (m := md) (r := r.toLoadRect) (S := r.set) subset_rfl) $$ Hd
  iintro Hd
  iapply (wp_store_any 𝒱 c bd E (m := md) (r := r) X hX) $$ Hd
  iintro Hd
  iapply Hk
  isplitl [H1]; · iexact H1
  isplitl [H2]; · iexact H2
  isplitl [H3]; · iexact H3
  iexact Hd

/-- Loads from four buffers, and the store of a function of what they hold. -/
theorem wp_compute4 {cs : CoreSpace} {md : Memref sig c.2.kind cs sh e} {r : Rect sh}
    {sp1 : CoreSpace} {sh1 : Shape} {e1 : EltTy} {m1 : Memref sig c.2.kind sp1 sh1 e1} {r1 : Rect sh1} {hl1 : m1.view.LoadsAt r1.toLoadRect} {S1 : Finset sh1.Idx} {X1 : sh1.Idx → Val e1}
    {sp2 : CoreSpace} {sh2 : Shape} {e2 : EltTy} {m2 : Memref sig c.2.kind sp2 sh2 e2} {r2 : Rect sh2} {hl2 : m2.view.LoadsAt r2.toLoadRect} {S2 : Finset sh2.Idx} {X2 : sh2.Idx → Val e2}
    {sp3 : CoreSpace} {sh3 : Shape} {e3 : EltTy} {m3 : Memref sig c.2.kind sp3 sh3 e3} {r3 : Rect sh3} {hl3 : m3.view.LoadsAt r3.toLoadRect} {S3 : Finset sh3.Idx} {X3 : sh3.Idx → Val e3}
    {sp4 : CoreSpace} {sh4 : Shape} {e4 : EltTy} {m4 : Memref sig c.2.kind sp4 sh4 e4} {r4 : Rect sh4} {hl4 : m4.view.LoadsAt r4.toLoadRect} {S4 : Finset sh4.Idx} {X4 : sh4.Idx → Val e4}
    {hl : md.view.LoadsAt r.toLoadRect} {hx : (md.access r).Stores Finset.univ} {hm : (Finset.univ : Finset r.shape.Idx) = Finset.univ ∨ ∀ a, r.stride a = 1}
    {pay : (r1.shape.Idx → Val e1) → (r2.shape.Idx → Val e2) → (r3.shape.Idx → Val e3) → (r4.shape.Idx → Val e4) → (r.shape.Idx → Val e)} {p : Prog (TpuEff nD τ sig Val Λ c.2) α} (X : sh.Idx → Val e)
    (h1 : r1.set ⊆ S1) (h2 : r2.set ⊆ S2) (h3 : r3.set ⊆ S3) (h4 : r4.set ⊆ S4)
    (hX : ∀ i, X (r.emb i) = pay (fun i => X1 (r1.idx i)) (fun i => X2 (r2.idx i)) (fun i => X3 (r3.idx i)) (fun i => X4 (r4.idx i)) i) :
    (holds c m1 S1 X1)
      ⊢ iprop(holds c m2 S2 X2 -∗ holds c m3 S3 X3 -∗ holds c m4 S4 X4 -∗ anyOn c md r.set -∗ (holds c m1 S1 X1 ∗ holds c m2 S2 X2 ∗ holds c m3 S3 X3 ∗ holds c m4 S4 X4 ∗ holds c md r.set X -∗ wp frame (wpE' defs 𝒱 c bd Γ) E p Q)
        -∗ wp frame (wpE' defs 𝒱 c bd Γ) E
          (.op (.load m1 r1.toLoadRect hl1) fun v1 => (.op (.load m2 r2.toLoadRect hl2) fun v2 => (.op (.load m3 r3.toLoadRect hl3) fun v3 => (.op (.load m4 r4.toLoadRect hl4) fun v4 => (.op (.load md r.toLoadRect hl) fun _ => (.op (.store md r (pay v1 v2 v3 v4) Finset.univ hx hm) fun _ => p)))))) Q) := by
  iintro H1 H2 H3 H4 Hd Hk
  iapply (wp_load_holds 𝒱 c bd E (m := m1) (r := r1.toLoadRect) (X := X1) h1) $$ H1
  iintro H1
  iapply (wp_load_holds 𝒱 c bd E (m := m2) (r := r2.toLoadRect) (X := X2) h2) $$ H2
  iintro H2
  iapply (wp_load_holds 𝒱 c bd E (m := m3) (r := r3.toLoadRect) (X := X3) h3) $$ H3
  iintro H3
  iapply (wp_load_holds 𝒱 c bd E (m := m4) (r := r4.toLoadRect) (X := X4) h4) $$ H4
  iintro H4
  iapply (wp_load_any 𝒱 c bd E (m := md) (r := r.toLoadRect) (S := r.set) subset_rfl) $$ Hd
  iintro Hd
  iapply (wp_store_any 𝒱 c bd E (m := md) (r := r) X hX) $$ Hd
  iintro Hd
  iapply Hk
  isplitl [H1]; · iexact H1
  isplitl [H2]; · iexact H2
  isplitl [H3]; · iexact H3
  isplitl [H4]; · iexact H4
  iexact Hd

end Rules

section Send

variable {D : Type} [DecidableEq D] {Λ : Labels} [Preorder Lvl] {defs : Defs nD τ sig Val Λ} (𝒱 : Variants)
variable (E : Emb (URounds (GSem nD τ sig) D) (MT nD τ sig Ix Val Name U Lvl)) (Rd : Schedule (GSem nD τ sig) D (MT nD τ sig Ix Val Name U Lvl))
variable (c c' : Thread nD τ) (bd : Option 𝒱.V) {Γ : PendingWaitsCtx sig Ix}
variable {α : Type} {Q : α → sProp (MT nD τ sig Ix Val Name U Lvl)}
variable {sp sp' : Space} {sh : Shape} {e : EltTy}

/-- A remote copy of a rectangle of one memref into the same rectangle of another of its shape: the receiver's
    elements come to hold what the sender's held, the sender's are handed to the send cell. -/
theorem wp_send_holds (ms : Memref sig c.2.kind sp sh e) (md : Memref sig c'.2.kind sp' sh e) (r : Rect sh)
    (hr : ∀ a, r.stride a = 1) (X : sh.Idx → Val e)
    {hsc : (md.slice r hr).view.ref.isScScratch = false} {sS sem : SemLoc sig}
    {hsrc : (ms.slice r hr).view.WordExact} {hdst : (md.slice r hr).view.WordExact}
    {hsem : DmaTarget.Typed sp sem (.remote c' (md.slice r hr) sS hsc)}
    {k : PUnit → Prog (TpuEff nD τ sig Val Λ c.2) α} {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : (md.slice r hr).view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : holds c ms r.set X ⊢ Rd.payload (c, sS) r₁ d₁)
    (hpay₂ : holds c' md r.set X ⊢ Rd.payload (c', sem) r₂ d₂) {Es : Set Name} (hroute : τ.routes c c' = true := by routes) :
    iprop(cellInv E Rd κ₁ (c, sS) ∗ cellInv E Rd κ₂ (c', sem)
        ∗ holds c ms r.set X ∗ anyOn c' md r.set
        ∗ owes c O₀ W
        ∗ dutyTok E (c, sS) r₁ d₁ ∗ reached E (c, sS) r₁
        ∗ dutyTok E (c', sem) r₂ d₂ ∗ reached E (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es
              (.op (.enqueueDma (ms.slice r hr) (.remote c' (md.slice r hr) sS hsc) sem hsrc hdst hsem) k) Q) := by
  unfold holds anyOn at *
  iintro ⟨HI₁, HI₂, ⟨%fs, %hfs, Hs⟩, ⟨%fd, Hd⟩, HO, Ht₁, Hr₁, Ht₂, Hr₂⟩
  have hss : (ms.slice r hr).view.set = ms.view.setOn r.set := View.set_slice _ _
  have hds : (md.slice r hr).view.set = md.view.setOn r.set := View.set_slice _ _
  iapply (Rounds.wp_send_pointsTo 𝒱 E Rd c bd (src := ms.slice r hr) (dst := md.slice r hr) (κ₁ := κ₁) (κ₂ := κ₂)
    (fs := fs) (fd := fd) hd₁ hd₂ ι ι' N hN hk₁ hk₂ O hO (W := W)
    (by
      refine BIBase.Entails.trans ?_ hpay₁
      rw [hss]
      iintro H
      iexists fs
      isplitr; · ipureintro; exact hfs
      iexact H)
    (by
      refine BIBase.Entails.trans ?_ hpay₂
      rw [hds]
      iintro H
      iexists _
      isplitr
      · ipureintro
        intro x hx
        obtain ⟨i, rfl⟩ := r.exists_idx_of_mem hx
        exact (View.read_slice_write_emb (v := md.view) r fd _ (Finset.mem_univ i)).trans (hfs _ hx)
      iexact H) hroute)
  isplitl [HI₁]; · iexact HI₁
  isplitl [HI₂]; · iexact HI₂
  isplitl [Hs]; · rw [hss]; iexact Hs
  isplitl [Hd]; · rw [hds]; iexact Hd
  isplitl [HO]; · iexact HO
  isplitl [Ht₁]; · iexact Ht₁
  isplitl [Hr₁]; · iexact Hr₁
  isplitl [Ht₂]; · iexact Ht₂
  iexact Hr₂

end Send

end Cert.Holds
-- ==== Proof.KernelIdeal.Geo.lean ====
/-
The geometry of the mesh: the partner of a device on an axis, the chunk of output rows a slot of a
scheme holds, and the closed forms of the device numbers and row offsets the kernel computes.
-/
module

public import proofs.«01_k».proof.Proof.Gen.KernelIdeal
public import Idealize.ShloMosaic.Lib.Decide

@[expose] public section

namespace Cert.KernelIdeal.Pf

open Cert.KernelIdeal Cert.KernelIdeal.Gen
open Idealize.ShloMosaic Idealize.SL.Sem

/-- A device with the bits of `k` of its number flipped. -/
def xorDev (k : Fin 8) (c : Dev nD) : Dev nD := ⟨(k.val ^^^ c.val) % 8, Nat.mod_lt _ (by decide)⟩

/-- The bits by which a device and its partner on axis `a` of the mesh differ. -/
def mask : Fin 3 → Fin 8 := ![1, 3, 4]

/-- The partner of a device on axis `a` of the mesh. -/
def flip (a : Fin 3) (c : Dev nD) : Dev nD := xorDev (mask a) c

/-- The axis of the mesh scheme `j` exchanges along at step `t`. -/
def ax (j t : Fin 3) : Fin 3 := j + t

/-- The chunk of output rows slot `s` of scheme `j` on device `c` stands for: the device's own, moved along the
    axis of step `t` for each of the three binary digits of `s`. -/
def chunkOf (j : Fin 3) (s : Fin 8) (c : Dev nD) : Dev nD :=
  let x := if s.val / 4 % 2 = 1 then flip (ax j 0) c else c
  let y := if s.val / 2 % 2 = 1 then flip (ax j 1) x else x
  if s.val % 2 = 1 then flip (ax j 2) y else y

/-- The row and column offset of the chunk `k` of the left operand. -/
def chOff (k : Dev nD) : Fin 2 → ℕ := ![192 * k.val, 0]

/-- The partner's partner is the device itself, -/
theorem flip_flip (a : Fin 3) (c : Dev nD) : flip a (flip a c) = c := by revert a c; decide +kernel
/-- the partner is another device, -/
theorem flip_ne (a : Fin 3) (c : Dev nD) : flip a c ≠ c := by revert a c; decide +kernel
/-- different devices have different partners on an axis, -/
theorem flip_inj (a : Fin 3) {c d : Dev nD} (h : flip a c = flip a d) : c = d := by
  rw [← flip_flip a c, h, flip_flip]
/-- and a device's partners on different axes differ. -/
theorem flip_axis_inj (c : Dev nD) {a b : Fin 3} (h : flip a c = flip b c) : a = b := by
  revert a b c; decide +kernel

/-- Moving to the partner on an axis, as a permutation of the devices. -/
def flipE (a : Fin 3) : Dev nD ≃ Dev nD := ⟨flip a, flip a, flip_flip a, flip_flip a⟩

/-- What a device sends at the first step for the upper four slots is the partner's lower four slots. -/
theorem chunk_sent (j : Fin 3) (s : Fin 4) (c : Dev nD) :
    chunkOf j ⟨4 + s.val, by omega⟩ (flip (ax j 0) c) = chunkOf j ⟨s.val, by omega⟩ c := by
  revert j s c; decide +kernel
/-- What a device sends at the second step for two slots is the partner's lower two. -/
theorem chunk_s1 (j : Fin 3) (s : Fin 2) (c : Dev nD) :
    chunkOf j ⟨2 + s.val, by omega⟩ (flip (ax j 1) c) = chunkOf j ⟨s.val, by omega⟩ c := by
  revert j s c; decide +kernel
/-- What a device sends at the third step is the partner's own chunk. -/
theorem chunk_s2 (j : Fin 3) (c : Dev nD) : chunkOf j 1 (flip (ax j 2) c) = c := by
  revert j c; decide +kernel
/-- Slot zero stands for the device's own chunk. -/
theorem chunk_own (j : Fin 3) (c : Dev nD) : chunkOf j 0 c = c := by
  revert j c; decide +kernel

/-- The device that the barrier signal number 1 goes to is the partner on axis 0. -/
theorem dev1_eq (c : Dev nD) : (⟨k0_dev1 c, k0_dev1_lt c⟩ : Dev nD) = flip 0 c := by revert c; decide +kernel
/-- The device that the barrier signal number 2 goes to is the partner on axis 1. -/
theorem dev2_eq (c : Dev nD) : (⟨k0_dev2 c, k0_dev2_lt c⟩ : Dev nD) = flip 1 c := by revert c; decide +kernel
/-- The device that the barrier signal number 3 goes to is the partner on axis 2. -/
theorem dev3_eq (c : Dev nD) : (⟨k0_dev3 c, k0_dev3_lt c⟩ : Dev nD) = flip 2 c := by revert c; decide +kernel
/-- The target of the copy number 1 is scheme 0's partner at step 0. -/
theorem dev4_eq (c : Dev nD) : (⟨k0_dev4 c, k0_dev4_lt c⟩ : Dev nD) = flip (ax 0 0) c := by revert c; decide +kernel
/-- The target of the copy number 2 is scheme 1's partner at step 0. -/
theorem dev5_eq (c : Dev nD) : (⟨k0_dev5 c, k0_dev5_lt c⟩ : Dev nD) = flip (ax 1 0) c := by revert c; decide +kernel
/-- The target of the copy number 3 is scheme 2's partner at step 0. -/
theorem dev6_eq (c : Dev nD) : (⟨k0_dev6 c, k0_dev6_lt c⟩ : Dev nD) = flip (ax 2 0) c := by revert c; decide +kernel
/-- The target of the copy number 4 is scheme 0's partner at step 0. -/
theorem dev7_eq (c : Dev nD) : (⟨k0_dev7 c, k0_dev7_lt c⟩ : Dev nD) = flip (ax 0 0) c := by revert c; decide +kernel
/-- The target of the copy number 5 is scheme 0's partner at step 0. -/
theorem dev8_eq (c : Dev nD) : (⟨k0_dev8 c, k0_dev8_lt c⟩ : Dev nD) = flip (ax 0 0) c := by revert c; decide +kernel
/-- The target of the copy number 6 is scheme 1's partner at step 0. -/
theorem dev9_eq (c : Dev nD) : (⟨k0_dev9 c, k0_dev9_lt c⟩ : Dev nD) = flip (ax 1 0) c := by revert c; decide +kernel
/-- The target of the copy number 7 is scheme 1's partner at step 0. -/
theorem dev10_eq (c : Dev nD) : (⟨k0_dev10 c, k0_dev10_lt c⟩ : Dev nD) = flip (ax 1 0) c := by revert c; decide +kernel
/-- The target of the copy number 8 is scheme 2's partner at step 0. -/
theorem dev11_eq (c : Dev nD) : (⟨k0_dev11 c, k0_dev11_lt c⟩ : Dev nD) = flip (ax 2 0) c := by revert c; decide +kernel
/-- The target of the copy number 9 is scheme 2's partner at step 0. -/
theorem dev12_eq (c : Dev nD) : (⟨k0_dev12 c, k0_dev12_lt c⟩ : Dev nD) = flip (ax 2 0) c := by revert c; decide +kernel
/-- The target of the copy number 10 is scheme 0's partner at step 1. -/
theorem dev13_eq (c : Dev nD) : (⟨k0_dev13 c, k0_dev13_lt c⟩ : Dev nD) = flip (ax 0 1) c := by revert c; decide +kernel
/-- The target of the copy number 11 is scheme 0's partner at step 1. -/
theorem dev14_eq (c : Dev nD) : (⟨k0_dev14 c, k0_dev14_lt c⟩ : Dev nD) = flip (ax 0 1) c := by revert c; decide +kernel
/-- The target of the copy number 12 is scheme 1's partner at step 1. -/
theorem dev15_eq (c : Dev nD) : (⟨k0_dev15 c, k0_dev15_lt c⟩ : Dev nD) = flip (ax 1 1) c := by revert c; decide +kernel
/-- The target of the copy number 13 is scheme 1's partner at step 1. -/
theorem dev16_eq (c : Dev nD) : (⟨k0_dev16 c, k0_dev16_lt c⟩ : Dev nD) = flip (ax 1 1) c := by revert c; decide +kernel
/-- The target of the copy number 14 is scheme 2's partner at step 1. -/
theorem dev17_eq (c : Dev nD) : (⟨k0_dev17 c, k0_dev17_lt c⟩ : Dev nD) = flip (ax 2 1) c := by revert c; decide +kernel
/-- The target of the copy number 15 is scheme 2's partner at step 1. -/
theorem dev18_eq (c : Dev nD) : (⟨k0_dev18 c, k0_dev18_lt c⟩ : Dev nD) = flip (ax 2 1) c := by revert c; decide +kernel
/-- The target of the copy number 16 is scheme 0's partner at step 2. -/
theorem dev19_eq (c : Dev nD) : (⟨k0_dev19 c, k0_dev19_lt c⟩ : Dev nD) = flip (ax 0 2) c := by revert c; decide +kernel
/-- The target of the copy number 17 is scheme 1's partner at step 2. -/
theorem dev20_eq (c : Dev nD) : (⟨k0_dev20 c, k0_dev20_lt c⟩ : Dev nD) = flip (ax 1 2) c := by revert c; decide +kernel
/-- The target of the copy number 18 is scheme 2's partner at step 2. -/
theorem dev21_eq (c : Dev nD) : (⟨k0_dev21 c, k0_dev21_lt c⟩ : Dev nD) = flip (ax 2 2) c := by revert c; decide +kernel

/-- The row offset number 1 that the program computes is that of this chunk. -/
theorem off1_eq (c : Dev nD) : k0_off1 c = chOff (xorDev 2 c) := by revert c; decide +kernel
/-- The row offset number 2 that the program computes is that of this chunk. -/
theorem off2_eq (c : Dev nD) : k0_off2 c = chOff (xorDev 6 c) := by revert c; decide +kernel
/-- The row offset number 3 that the program computes is that of this chunk. -/
theorem off3_eq (c : Dev nD) : k0_off3 c = chOff (xorDev 7 c) := by revert c; decide +kernel
/-- The row offset number 4 that the program computes is that of this chunk. -/
theorem off4_eq (c : Dev nD) : k0_off4 c = chOff (xorDev 5 c) := by revert c; decide +kernel
/-- The row offset number 5 that the program computes is that of this chunk. -/
theorem off5_eq (c : Dev nD) : k0_off5 c = chOff (xorDev 1 c) := by revert c; decide +kernel
/-- The row offset number 6 that the program computes is that of this chunk. -/
theorem off6_eq (c : Dev nD) : k0_off6 c = chOff (xorDev 3 c) := by revert c; decide +kernel
/-- The row offset number 7 that the program computes is that of this chunk. -/
theorem off7_eq (c : Dev nD) : k0_off7 c = chOff (xorDev 4 c) := by revert c; decide +kernel
/-- The row offset number 8 that the program computes is that of this chunk. -/
theorem off8_eq (c : Dev nD) : k0_off8 c = chOff c := by revert c; decide +kernel

/-- The chunk of each slot, as the bits flipped. -/
theorem chunkOf_eq (j : Fin 3) (s : Fin 8) (c : Dev nD) :
    chunkOf j s c = xorDev ((![![0, 4, 3, 7, 1, 5, 2, 6], ![0, 1, 4, 5, 3, 2, 7, 6], ![0, 3, 1, 2, 4, 7, 5, 6]] : Fin 3 → Fin 8 → Fin 8) j s) c := by
  revert j s c; decide +kernel

end Cert.KernelIdeal.Pf
-- ==== Proof.KernelIdeal.Vals.lean ====
/-
The buffers of the kernel as families over the three schemes and the three steps, and the value every element of
every buffer is given: each is stored exactly once, so one function per buffer says what it holds from then on.
-/
module

public import proofs.«01_k».proof.Proof.KernelIdeal.Geo
public import proofs.«01_k».proof.Proof.Holds
public import proofs.«01_k».proof.Proof.Gen.KernelIdeal.Skeleton

@[expose] public section

noncomputable section

namespace Cert.KernelIdeal.Pf

open Cert.KernelIdeal Cert.KernelIdeal.Gen
open Idealize.ShloMosaic Idealize.SL.Sem

variable {F : FTy → Type} [FloatOps F]

/-! ## The rectangles -/

/-- How many slots the buffers of step `t` have. -/
def slots : Fin 3 → ℕ := ![4, 2, 1]

/-- The shape of a buffer of `n` slots. -/
abbrev SN (n : ℕ) : Shape := ⟨3, ![n, 192, 512]⟩
/-- The shape of a buffer of step `t`. -/
abbrev SH (t : Fin 3) : Shape := ⟨3, ![slots t, 192, 512]⟩

/-- A run of slots lies within its buffer. -/
theorem runInb {n b k : ℕ} (h : b + k ≤ n) :
    ∀ a, (![b, 0, 0] : Fin 3 → ℕ) a + (![k, 192, 512] : Fin 3 → ℕ) a ≤ (SN n).size a := by
  intro a
  match a with
  | 0 => exact h
  | 1 => exact Nat.le_of_eq (Nat.zero_add _)
  | 2 => exact Nat.le_of_eq (Nat.zero_add _)

/-- The rectangle of `k` consecutive slots from slot `b` of a buffer of `n`. -/
abbrev runR (n b k : ℕ) (h : b + k ≤ n) : Rect (SN n) := Rect.unit (s := SN n) ![b, 0, 0] ![k, 192, 512] (runInb h)

/-- An index of a run of slots lies at those slots. -/
theorem mem_runR {n b k : ℕ} {h : b + k ≤ n} {x : (SN n).Idx} : x ∈ (runR n b k h).set ↔ b ≤ (x 0).val ∧ (x 0).val < b + k := by
  rw [Rect.mem_set_unit]
  constructor
  · intro hx; exact hx 0
  · intro hx a
    match a with
    | 0 => exact hx
    | 1 => exact ⟨Nat.zero_le _, by rw [show (![b, 0, 0] : Fin 3 → ℕ) 1 = 0 from rfl, Nat.zero_add]; exact (x 1).isLt⟩
    | 2 => exact ⟨Nat.zero_le _, by rw [show (![b, 0, 0] : Fin 3 → ℕ) 2 = 0 from rfl, Nat.zero_add]; exact (x 2).isLt⟩

/-- A run splits into its first slots and the rest, -/
theorem runR_split (n b k l : ℕ) (h : b + (k + l) ≤ n) :
    (runR n b (k + l) h).set = (runR n b k (by omega)).set ∪ (runR n (b + k) l (by omega)).set := by
  ext x; rw [Finset.mem_union, mem_runR, mem_runR, mem_runR]; omega

/-- which are disjoint. -/
theorem runR_disj (n b k b' l : ℕ) (h : b + k ≤ n) (h' : b' + l ≤ n) (hb : b + k ≤ b') :
    Disjoint (runR n b k h).set (runR n b' l h').set := by
  rw [Finset.disjoint_left]; intro x; rw [mem_runR, mem_runR]; omega

/-- The run of all slots is everything. -/
theorem runR_all (n : ℕ) : (runR n 0 n (by omega)).set = Finset.univ := by
  ext x; rw [mem_runR]
  exact ⟨fun _ => Finset.mem_univ _, fun _ => ⟨Nat.zero_le _, by rw [Nat.zero_add]; exact (x 0).isLt⟩⟩

/-- The column offsets of the three schemes. -/
def colOff : Fin 3 → ℕ := ![0, 512, 1024]

/-- Scheme `j`'s columns start at `512 j`. -/
theorem colOff_eq (j : Fin 3) : colOff j = 512 * j.val := by revert j; decide

/-- A third of the columns lies within the matrix. -/
theorem colInb (n : ℕ) (j : Fin 3) :
    ∀ a, (![0, colOff j] : Fin 2 → ℕ) a + (![n, 512] : Fin 2 → ℕ) a ≤ (⟨2, ![n, 1536]⟩ : Shape).size a := by
  intro a
  match a with
  | 0 => exact Nat.le_of_eq (Nat.zero_add _)
  | 1 => show colOff j + 512 ≤ 1536; rw [colOff_eq]; omega

/-- The columns of scheme `j`, of a matrix of `n` rows. -/
abbrev colR (n : ℕ) (j : Fin 3) : Rect ⟨2, ![n, 1536]⟩ := Rect.unit (s := ⟨2, ![n, 1536]⟩) ![0, colOff j] ![n, 512] (colInb n j)

/-- An index of a third of the columns lies in those columns. -/
theorem mem_colR {n : ℕ} {j : Fin 3} {x : (⟨2, ![n, 1536]⟩ : Shape).Idx} :
    x ∈ (colR n j).set ↔ colOff j ≤ (x 1).val ∧ (x 1).val < colOff j + 512 := by
  rw [Rect.mem_set_unit]
  constructor
  · intro hx; exact hx 1
  · intro hx a
    match a with
    | 0 => exact ⟨Nat.zero_le _, by rw [show (![0, colOff j] : Fin 2 → ℕ) 0 = 0 from rfl, Nat.zero_add]; exact (x 0).isLt⟩
    | 1 => exact hx

/-- The three thirds of the columns are everything, -/
theorem colR_all (n : ℕ) : (Finset.univ : Finset (⟨2, ![n, 1536]⟩ : Shape).Idx) = (colR n 0).set ∪ ((colR n 1).set ∪ (colR n 2).set) := by
  ext x
  have hx : (x 1).val < 1536 := (x 1).isLt
  rw [Finset.mem_union, Finset.mem_union, mem_colR, mem_colR, mem_colR]
  simp only [Finset.mem_univ, true_iff, show colOff 0 = 0 from rfl, show colOff 1 = 512 from rfl, show colOff 2 = 1024 from rfl]
  omega

/-- and disjoint. -/
theorem colR_disj (n : ℕ) : Disjoint (colR n 0).set ((colR n 1).set ∪ (colR n 2).set) := by
  rw [Finset.disjoint_left]; intro x; rw [Finset.mem_union, mem_colR, mem_colR, mem_colR]
  simp only [show colOff 0 = 0 from rfl, show colOff 1 = 512 from rfl, show colOff 2 = 1024 from rfl]
  omega
/-- The last two thirds are disjoint, too. -/
theorem colR_disj' (n : ℕ) : Disjoint (colR n 1).set (colR n 2).set := by
  rw [Finset.disjoint_left]; intro x; rw [mem_colR, mem_colR]
  simp only [show colOff 1 = 512 from rfl, show colOff 2 = 1024 from rfl]
  omega

/-- A chunk of rows lies within the left operand. -/
theorem chInb (k : Dev nD) : ∀ a, chOff k a + S192x768.size a ≤ S1536x768.size a := by revert k; decide

/-- The rows of chunk `k` of the left operand. -/
abbrev chR (k : Dev nD) : Rect S1536x768 := Rect.unit (s := S1536x768) (chOff k) S192x768.size (chInb k)

/-! ## The buffers -/

/-- The buffer scheme `j` sends from at step `t`. -/
def snd : (t j : Fin 3) → Memref sig .tc .vmem (SH t) .bf16
  | 0, 0 => Memref.whole cc0_scratch5
  | 0, 1 => Memref.whole cc0_scratch6
  | 0, 2 => Memref.whole cc0_scratch7
  | 1, 0 => Memref.whole cc0_scratch8
  | 1, 1 => Memref.whole cc0_scratch9
  | 1, 2 => Memref.whole cc0_scratch10
  | 2, 0 => Memref.whole cc0_scratch11
  | 2, 1 => Memref.whole cc0_scratch12
  | 2, 2 => Memref.whole cc0_scratch13

/-- The buffer scheme `j` receives into at step `t`. -/
def rcv : (t j : Fin 3) → Memref sig .tc .vmem (SH t) .bf16
  | 0, 0 => Memref.whole cc0_scratch14
  | 0, 1 => Memref.whole cc0_scratch15
  | 0, 2 => Memref.whole cc0_scratch16
  | 1, 0 => Memref.whole cc0_scratch17
  | 1, 1 => Memref.whole cc0_scratch18
  | 1, 2 => Memref.whole cc0_scratch19
  | 2, 0 => Memref.whole cc0_scratch20
  | 2, 1 => Memref.whole cc0_scratch21
  | 2, 2 => Memref.whole cc0_scratch22

/-- The buffer of the partial products scheme `j` keeps. -/
def prt : (j : Fin 3) → Memref sig .tc .vmem (SN 4) .f32
  | 0 => Memref.whole cc0_scratch2
  | 1 => Memref.whole cc0_scratch3
  | 2 => Memref.whole cc0_scratch4

/-- The left operand's buffer, -/
abbrev aM : Memref sig .tc .vmem S1536x768 .f32 := Memref.whole cc0_stg0_0
/-- the right operand's, -/
abbrev bM : Memref sig .tc .vmem S768x1536 .f32 := Memref.whole cc0_stg1_0
/-- the result's, -/
abbrev oM : Memref sig .tc .vmem S192x1536 .f32 := Memref.whole cc0_stg2_0
/-- and those of the two narrowed operands: -/
abbrev a16M : Memref sig .tc .vmem S1536x768 .bf16 := Memref.whole cc0_scratch0
/-- the right one's. -/
abbrev b16M : Memref sig .tc .vmem S768x1536 .bf16 := Memref.whole cc0_scratch1

/-! ## The copies

Each scheme makes six: at the first step the two slots the second step waits for, then the one the third step waits
for, then the one for the result; at the second step two; at the third one. -/

/-- The step copy `w` belongs to, -/
def tW : Fin 6 → Fin 3 := ![0, 0, 0, 1, 1, 2]
/-- its first slot, -/
def bW : Fin 6 → ℕ := ![2, 1, 0, 1, 0, 0]
/-- and its number of slots. -/
def kW : Fin 6 → ℕ := ![2, 1, 1, 1, 1, 1]

/-- A copy's slots lie within its step's buffer. -/
theorem bkW (w : Fin 6) : bW w + kW w ≤ slots (tW w) := by revert w; decide

/-- The slots of copy `w`. -/
abbrev rW (w : Fin 6) : Rect (SH (tW w)) := runR (slots (tW w)) (bW w) (kW w) (bkW w)

/-- The send semaphore of copy `w` of scheme `j`, -/
def sS (j : Fin 3) (w : Fin 6) : DmaSem sig := ⟨3 + (6 * j.val + w.val), by have := j.isLt; have := w.isLt; show _ < 39; omega⟩
/-- and its receive semaphore. -/
def rS (j : Fin 3) (w : Fin 6) : DmaSem sig := ⟨21 + (6 * j.val + w.val), by have := j.isLt; have := w.isLt; show _ < 39; omega⟩

/-- The device copy `w` of scheme `j` goes to, and comes from. -/
abbrev pW (j : Fin 3) (w : Fin 6) (c : Dev nD) : Dev nD := flip (ax j (tW w)) c

/-! ## The values -/

/-- The index within a slot of an index of a buffer. -/
def inSlot {n : ℕ} (x : (SN n).Idx) : S1x192x512.Idx := fun a => match a with
  | 0 => (⟨0, Nat.one_pos⟩ : Fin 1)
  | 1 => x 1
  | 2 => x 2

/-- The contents of a buffer given slot by slot. -/
def bySlot {n : ℕ} {α : Type} (v : ℕ → S1x192x512.Idx → α) : (SN n).Idx → α := fun x => v (x 0).val (inSlot x)

/-- A slot lies within its buffer. -/
theorem slotInb {n s : ℕ} (h : s < n) : ∀ a, (![s, 0, 0] : Fin 3 → ℕ) a + S1x192x512.size a ≤ (SN n).size a := runInb h

/-- Read at a slot, contents given slot by slot are that slot's. -/
theorem bySlot_slot {n : ℕ} {α : Type} (v : ℕ → S1x192x512.Idx → α) (s : ℕ) (h) (i : S1x192x512.Idx) :
    bySlot (n := n) v ((Rect.unit (s := SN n) ![s, 0, 0] S1x192x512.size h).idx i) = v s i := by
  have h0 : (i 0).val = 0 := Nat.lt_one_iff.mp (i 0).isLt
  have hs : (((Rect.unit (s := SN n) ![s, 0, 0] S1x192x512.size h).idx i) 0).val = s := by
    show s + 1 * (i 0).val = s
    omega
  unfold bySlot
  rw [hs]
  congr 1
  funext a
  match a with
  | 0 => exact Fin.ext h0.symm
  | 1 => exact Fin.ext (by show 0 + 1 * (i 1).val = _; omega)
  | 2 => exact Fin.ext (by show 0 + 1 * (i 2).val = _; omega)

/-- The index within a third of the columns of an index of a matrix. -/
def inCol {n : ℕ} (x : (⟨2, ![n, 1536]⟩ : Shape).Idx) : (⟨2, ![n, 512]⟩ : Shape).Idx := fun a => match a with
  | 0 => x 0
  | 1 => (⟨(x 1).val % 512, Nat.mod_lt _ (by decide)⟩ : Fin 512)

/-- The third of the columns an index lies in. -/
def colOf {n : ℕ} (x : (⟨2, ![n, 1536]⟩ : Shape).Idx) : Fin 3 :=
  ⟨(x 1).val / 512, by have : (x 1).val < 1536 := (x 1).isLt; omega⟩

/-- The contents of a matrix given third by third. -/
def byCol {n : ℕ} {α : Type} (v : Fin 3 → (⟨2, ![n, 512]⟩ : Shape).Idx → α) : (⟨2, ![n, 1536]⟩ : Shape).Idx → α :=
  fun x => v (colOf x) (inCol x)

/-- Read at a third, contents given third by third are that third's. -/
theorem byCol_col {n : ℕ} {α : Type} (v : Fin 3 → (⟨2, ![n, 512]⟩ : Shape).Idx → α) (j : Fin 3) (i : (⟨2, ![n, 512]⟩ : Shape).Idx) :
    byCol v ((colR n j).idx i) = v j i := by
  have h1 : (i 1).val < 512 := (i 1).isLt
  have hv : (((colR n j).idx i) 1).val = colOff j + (i 1).val := by show colOff j + 1 * (i 1).val = _; omega
  have hj := colOff_eq j
  have hc : colOf ((colR n j).idx i) = j := Fin.ext (by unfold colOf; show _ / 512 = _; rw [hv, hj]; omega)
  have hi : inCol ((colR n j).idx i) = i := by
    funext a
    match a with
    | 0 => exact Fin.ext (by show 0 + 1 * (i 0).val = _; omega)
    | 1 => exact Fin.ext (by show (((colR n j).idx i) 1).val % 512 = _; rw [hv, hj]; omega)
  unfold byCol
  rw [hc, hi]

variable (A : Dev nD → Vec F S1536x768 .f32) (B : Dev nD → Vec F S768x1536 .f32)

/-- The left operand's block, narrowed, -/
def a16 (c : Dev nD) : Vec F S1536x768 .bf16 := k0_pay18 (A c)
/-- and the right operand's, a third at a time. -/
def b16 (c : Dev nD) : Vec F S768x1536 .bf16 := byCol (n := 768) fun j => k0_pay1 (fun i => B c ((colR 768 j).idx i))

/-- A chunk of the left operand's rows, as given and narrowed, and a third of the right operand's columns. -/
def chA (c k : Dev nD) : Vec F S192x768 .f32 := fun i => A c ((chR k).idx i)
/-- The chunk narrowed. -/
def chA16 (c k : Dev nD) : Vec F S192x768 .bf16 := fun i => a16 A c ((chR k).idx i)
/-- The third. -/
def thB (c : Dev nD) (j : Fin 3) : Vec F S768x512 .bf16 := fun i => b16 B c ((colR 768 j).idx i)

/-- What device `c` sends of scheme `j` at the first step, slot by slot. -/
def sent (c : Dev nD) (j : Fin 3) (s : ℕ) : Vec F S1x192x512 .bf16 :=
  k0_pay2 (chA A c (chunkOf j (Fin.ofNat 8 (4 + s)) c)) (thB B c j)

/-- What it keeps of its own products, slot by slot. -/
def part (c : Dev nD) (j : Fin 3) (s : ℕ) : Vec F S1x192x512 .f32 :=
  k0_pay19 (chA16 A c (chunkOf j (Fin.ofNat 8 s) c)) (thB B c j)

/-- What it sends at the second step: its own and what the first step brought, added. -/
def sent1 (c : Dev nD) (j : Fin 3) (s : ℕ) : Vec F S1x192x512 .bf16 :=
  k0_pay32 (part A B c j (2 + s)) (sent A B (flip (ax j 0) c) j (2 + s))

/-- What it sends at the third step. -/
def sent2 (c : Dev nD) (j : Fin 3) : Vec F S1x192x512 .bf16 :=
  k0_pay40 (part A B c j 1) (sent A B (flip (ax j 0) c) j 1) (sent1 A B (flip (ax j 1) c) j 1)

/-- The result's columns of scheme `j`. -/
def out (c : Dev nD) (j : Fin 3) : Vec F S192x512 .f32 :=
  k0_pay46 (part A B c j 0) (sent A B (flip (ax j 0) c) j 0) (sent1 A B (flip (ax j 1) c) j 0) (sent2 A B (flip (ax j 2) c) j)

/-- The contents of the kept products, -/
def prtV (c : Dev nD) (j : Fin 3) : Vec F (SN 4) .f32 := bySlot (part A B c j)
/-- of the buffer device `c` sends from, -/
def sndV (c : Dev nD) : (t j : Fin 3) → Vec F (SH t) .bf16
  | 0, j => bySlot (n := slots 0) (sent A B c j)
  | 1, j => bySlot (n := slots 1) (sent1 A B c j)
  | 2, j => bySlot (n := slots 2) (fun _ => sent2 A B c j)
/-- and of the result. -/
def outV (c : Dev nD) : Vec F S192x1536 .f32 := byCol (n := 192) (out A B c)

/-! ## The stored payloads are all of one of seven forms -/

/-- Store 3: a third of the right operand, narrowed. -/
theorem pay3_eq : (k0_pay3 : Vec F S192x768 .f32 → _) = k0_pay2 := rfl
/-- Store 4: a product sent at the first step. -/
theorem pay4_eq : (k0_pay4 : Vec F S768x512 .f32 → _) = k0_pay1 := rfl
/-- Store 5: a product sent at the first step. -/
theorem pay5_eq : (k0_pay5 : Vec F S192x768 .f32 → _) = k0_pay2 := rfl
/-- Store 6: a third of the right operand, narrowed. -/
theorem pay6_eq : (k0_pay6 : Vec F S192x768 .f32 → _) = k0_pay2 := rfl
/-- Store 7: a product sent at the first step. -/
theorem pay7_eq : (k0_pay7 : Vec F S768x512 .f32 → _) = k0_pay1 := rfl
/-- Store 8: a product sent at the first step. -/
theorem pay8_eq : (k0_pay8 : Vec F S192x768 .f32 → _) = k0_pay2 := rfl
/-- Store 9: a product sent at the first step. -/
theorem pay9_eq : (k0_pay9 : Vec F S192x768 .f32 → _) = k0_pay2 := rfl
/-- Store 10: a product sent at the first step. -/
theorem pay10_eq : (k0_pay10 : Vec F S192x768 .f32 → _) = k0_pay2 := rfl
/-- Store 11: a product sent at the first step. -/
theorem pay11_eq : (k0_pay11 : Vec F S192x768 .f32 → _) = k0_pay2 := rfl
/-- Store 12: a product sent at the first step. -/
theorem pay12_eq : (k0_pay12 : Vec F S192x768 .f32 → _) = k0_pay2 := rfl
/-- Store 13: a product sent at the first step. -/
theorem pay13_eq : (k0_pay13 : Vec F S192x768 .f32 → _) = k0_pay2 := rfl
/-- Store 15: a product sent at the first step. -/
theorem pay15_eq (a : Vec F S192x768 .f32) (b : Vec F S768x512 .bf16) : k0_pay15 (k0_pay14 a b) = k0_pay2 a b := rfl
/-- Store 17: a kept product. -/
theorem pay17_eq (a : Vec F S192x768 .f32) (b : Vec F S768x512 .bf16) : k0_pay17 (k0_pay16 a) b = k0_pay2 a b := rfl
/-- Store 20: a kept product. -/
theorem pay20_eq : (k0_pay20 : Vec F S192x768 .bf16 → _) = k0_pay19 := rfl
/-- Store 21: a kept product. -/
theorem pay21_eq : (k0_pay21 : Vec F S192x768 .bf16 → _) = k0_pay19 := rfl
/-- Store 22: a kept product. -/
theorem pay22_eq : (k0_pay22 : Vec F S192x768 .bf16 → _) = k0_pay19 := rfl
/-- Store 23: a kept product. -/
theorem pay23_eq : (k0_pay23 : Vec F S192x768 .bf16 → _) = k0_pay19 := rfl
/-- Store 25: a kept product. -/
theorem pay25_eq (a : Vec F S192x768 .bf16) (b : Vec F S768x512 .bf16) : k0_pay25 (k0_pay24 a b) = k0_pay19 a b := rfl
/-- Store 26: a kept product. -/
theorem pay26_eq : (k0_pay26 : Vec F S192x768 .bf16 → _) = k0_pay19 := rfl
/-- Store 27: a kept product. -/
theorem pay27_eq : (k0_pay27 : Vec F S192x768 .bf16 → _) = k0_pay19 := rfl
/-- Store 28: a kept product. -/
theorem pay28_eq : (k0_pay28 : Vec F S192x768 .bf16 → _) = k0_pay19 := rfl
/-- Store 29: a kept product. -/
theorem pay29_eq : (k0_pay29 : Vec F S192x768 .bf16 → _) = k0_pay19 := rfl
/-- Store 30: a kept product. -/
theorem pay30_eq : (k0_pay30 : Vec F S192x768 .bf16 → _) = k0_pay19 := rfl
/-- Store 31: a sum sent at the second step. -/
theorem pay31_eq : (k0_pay31 : Vec F S192x768 .bf16 → _) = k0_pay19 := rfl
/-- Store 33: a sum sent at the second step. -/
theorem pay33_eq : (k0_pay33 : Vec F S1x192x512 .f32 → _) = k0_pay32 := rfl
/-- Store 34: a sum sent at the second step. -/
theorem pay34_eq : (k0_pay34 : Vec F S1x192x512 .f32 → _) = k0_pay32 := rfl
/-- Store 36: a sum sent at the second step. -/
theorem pay36_eq (a : Vec F S1x192x512 .f32) (b : Vec F S1x192x512 .bf16) : k0_pay36 (k0_pay35 a) b = k0_pay32 a b := rfl
/-- Store 38: a sum sent at the second step. -/
theorem pay38_eq (a : Vec F S1x192x512 .f32) (b : Vec F S1x192x512 .bf16) : k0_pay38 (k0_pay37 a) b = k0_pay32 a b := rfl
/-- Store 39: a sum sent at the third step. -/
theorem pay39_eq : (k0_pay39 : Vec F S1x192x512 .f32 → _) = k0_pay32 := rfl
/-- Store 42: a sum sent at the third step. -/
theorem pay42_eq (a : Vec F S1x192x512 .f32) (b d : Vec F S1x192x512 .bf16) : k0_pay42 (k0_pay41 a b d) = k0_pay40 a b d := rfl
/-- Store 45: a sum sent at the third step. -/
theorem pay45_eq (a : Vec F S1x192x512 .f32) (b d : Vec F S1x192x512 .bf16) :
    k0_pay45 (k0_pay43 a b) (k0_pay44 d) = k0_pay40 a b d := rfl
/-- Store 48: a third of the result. -/
theorem pay48_eq (a : Vec F S1x192x512 .f32) (b d e : Vec F S1x192x512 .bf16) :
    k0_pay48 (k0_pay47 a) b d e = k0_pay46 a b d e := rfl
/-- Store 49: a third of the result. -/
theorem pay49_eq : (k0_pay49 : Vec F S1x192x512 .f32 → _) = k0_pay46 := rfl

end Cert.KernelIdeal.Pf
-- ==== Proof.KernelIdeal.Sched.lean ====
/-
The protocol: what each semaphore of each device counts, what is handed over with each count, what each device owes at
launch, and the order in which the semaphores may be waited for.

Each device's barrier semaphore takes one unit from each of its three partners; with it the partner on axis `a` hands
over the landing buffers on itself this device will write. Each of the eighteen copies has a send semaphore, which
returns the sender's slots, and a receive semaphore, which hands the receiver its slots holding what the sender's held.
-/
module

public import proofs.«01_k».proof.Proof.KernelIdeal.Vals
public import proofs.«01_k».proof.Proof.Gen.KernelIdeal.Launch
public import Idealize.ShloMosaic.Lib.Pipeline.Launch
public import Idealize.ShloMosaic.Lib.Pipeline.Kit

@[expose] public section

noncomputable section

namespace Cert.KernelIdeal.Pf

open Cert.KernelIdeal Cert.KernelIdeal.Gen Cert.Holds
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the protocol's rounds, -/
abbrev UB : Type := URounds (GSem nD τ sig) (Fin 3)
/-- beside the pipeline's. -/
abbrev UU : Type := UR sig nD τ × UB

local notation "𝕄" => MT nD τ sig Unit (Elt F) ℕ UU ℕ

/-- The pipeline's part of the ghost state, -/
abbrev EP : Emb (UR sig nD τ) (MT nD τ sig Unit (Elt F) ℕ UU ℕ) := embL
/-- and the protocol's. -/
abbrev ER : Emb UB (MT nD τ sig Unit (Elt F) ℕ UU ℕ) := embR

/-! ## Separating conjunctions over a list -/

/-- The separating conjunction of an assertion at each member of a list. -/
def sepAll {ι : Type} (P : ι → sProp 𝕄) : List ι → sProp 𝕄
  | [] => iprop(emp)
  | x :: l => iprop(P x ∗ sepAll P l)

/-- The conjunction over a list with a first member, -/
theorem sepAll_cons {ι : Type} (P : ι → sProp 𝕄) (x : ι) (l : List ι) : sepAll P (x :: l) = iprop(P x ∗ sepAll P l) := rfl
/-- and over the empty list. -/
theorem sepAll_nil {ι : Type} (P : ι → sProp 𝕄) : sepAll P [] = iprop(emp) := rfl

/-- The order of the list does not matter. -/
theorem sepAll_perm {ι : Type} (P : ι → sProp 𝕄) {l l' : List ι} (h : l.Perm l') : sepAll P l ⊢ sepAll P l' := by
  induction h with
  | nil => exact .rfl
  | cons x _ ih => rw [sepAll_cons, sepAll_cons]; exact sep_mono_right ih
  | swap x y l =>
    simp only [sepAll_cons]
    iintro ⟨H1, H2, H3⟩
    isplitl [H2]; · iexact H2
    isplitl [H1]; · iexact H1
    iexact H3
  | trans _ _ ih1 ih2 => exact BIBase.Entails.trans ih1 ih2

/-- A conjunction may be weakened member by member. -/
theorem sepAll_mono {ι : Type} (P Q : ι → sProp 𝕄) (l : List ι) (h : ∀ x, P x ⊢ Q x) : sepAll P l ⊢ sepAll Q l := by
  induction l with
  | nil => exact .rfl
  | cons x l ih => rw [sepAll_cons, sepAll_cons]; exact BIClass.sep_mono (h x) ih

/-- The separating conjunction over a finite type is that over a list of its members. -/
theorem sepAll_univ {ι : Type} [Fintype ι] [DecidableEq ι] (P : ι → sProp 𝕄) (l : List ι) (hn : l.Nodup) (hl : l.toFinset = Finset.univ) :
    bigSep Finset.univ P = sepAll P l := by
  rw [← hl]
  clear hl
  induction l with
  | nil => rw [List.toFinset_nil, bigSep_empty]; rfl
  | cons x l ih =>
    rw [List.toFinset_cons, bigSep_insert (by rw [List.mem_toFinset]; exact (List.nodup_cons.mp hn).1), sepAll_cons,
      ih (List.nodup_cons.mp hn).2]
    rfl

/-! ## The semaphores -/

/-- The barrier semaphore. -/
abbrev barS : Sem sig := (SemArray.scalar (sig.barrier 0 rfl) : Sems sig S_).sem

/-- A device's barrier semaphore, -/
abbrev barCell (c : Dev nD) : GSem nD τ sig := ((c : Thread nD τ), .reg barS)
/-- its send semaphore of a copy, -/
abbrev sCell (c : Dev nD) (j : Fin 3) (w : Fin 6) : GSem nD τ sig := ((c : Thread nD τ), .dma (sS j w))
/-- and its receive semaphore of a copy. -/
abbrev rCell (c : Dev nD) (j : Fin 3) (w : Fin 6) : GSem nD τ sig := ((c : Thread nD τ), .dma (rS j w))

/-- The scheme and copy with a number below eighteen. -/
def jOf (n : ℕ) : Fin 3 := ⟨n / 6 % 3, Nat.mod_lt _ (by decide)⟩
/-- The copy. -/
def wOf (n : ℕ) : Fin 6 := ⟨n % 6, Nat.mod_lt _ (by decide)⟩
/-- The number of a copy gives back its scheme -/
theorem jOf_eq (j : Fin 3) (w : Fin 6) : jOf (6 * j.val + w.val) = j := by revert j w; decide
/-- and its place in the scheme. -/
theorem wOf_eq (j : Fin 3) (w : Fin 6) : wOf (6 * j.val + w.val) = w := by revert j w; decide

/-- The send semaphores are numbered from 3, -/
theorem sS_sub (j : Fin 3) (w : Fin 6) : (sS j w).val - 3 = 6 * j.val + w.val := by
  show 3 + (6 * j.val + w.val) - 3 = _; omega
/-- the receive semaphores from 21. -/
theorem rS_sub (j : Fin 3) (w : Fin 6) : (rS j w).val - 21 = 6 * j.val + w.val := by
  show 21 + (6 * j.val + w.val) - 21 = _; omega

/-- The slots copy `w` of scheme `j` is sent from, and those it lands in. -/
abbrev sM (j : Fin 3) (w : Fin 6) : Memref sig .tc .vmem ⟨3, ![kW w, 192, 512]⟩ .bf16 := (snd (tW w) j).slice (rW w) (fun _ => rfl)
/-- The slots that it lands in. -/
abbrev rM (j : Fin 3) (w : Fin 6) : Memref sig .tc .vmem ⟨3, ![kW w, 192, 512]⟩ .bf16 := (rcv (tW w) j).slice (rW w) (fun _ => rfl)

/-- The credit of copy `w` of scheme `j`. -/
def cr (j : Fin 3) (w : Fin 6) : ℕ := (rM j w).view.dmaCredit
/-- The credit is positive, -/
theorem cr_pos (j : Fin 3) (w : Fin 6) : 0 < cr j w := View.dmaCredit_pos _ (by revert w; decide)
/-- and the same on the sending side. -/
theorem cr_snd (j : Fin 3) (w : Fin 6) : (sM j w).view.dmaCredit = cr j w := by
  fin_cases j <;> fin_cases w <;> rfl

variable (A : Dev nD → Vec F S1536x768 .f32) (B : Dev nD → Vec F S768x1536 .f32)

/-! ## What is handed over -/

/-- The slots on its partner that device `c`'s copy `w` of scheme `j` lands in. -/
def land (c : Dev nD) (j : Fin 3) (w : Fin 6) : sProp 𝕄 :=
  anyOn (Ix := Unit) (Name := ℕ) (U := UU) (Lvl := ℕ) (Val := Elt F) (pW j w c : Thread nD τ) (rcv (tW w) j) (rW w).set

/-- The six of them a barrier signal along axis `a` hands over. -/
def barPay (c : Dev nD) (a : Fin 3) : sProp 𝕄 := sepAll (fun w => land (F := F) c (a - tW w) w) [0, 1, 2, 3, 4, 5]

/-- What the receive semaphore of copy `w` of scheme `j` hands device `c`: its slots, holding what the sender's held. -/
def recvPay (c : Dev nD) (j : Fin 3) (w : Fin 6) : sProp 𝕄 :=
  holds (Ix := Unit) (Name := ℕ) (U := UU) (Lvl := ℕ) (c : Thread nD τ) (rcv (tW w) j) (rW w).set (sndV A B (pW j w c) (tW w) j)

/-- What the send semaphore hands back: the slots sent. -/
def sendPay (c : Dev nD) (j : Fin 3) (w : Fin 6) : sProp 𝕄 :=
  holds (Ix := Unit) (Name := ℕ) (U := UU) (Lvl := ℕ) (c : Thread nD τ) (snd (tW w) j) (rW w).set (sndV A B c (tW w) j)

/-! ## The schedule -/

/-- The payload of a DMA semaphore. -/
def dmaPay (c : Dev nD) (q : ℕ) : sProp 𝕄 :=
  if q < 3 then iprop(emp) else if q < 21 then sendPay A B c (jOf (q - 3)) (wOf (q - 3)) else recvPay A B c (jOf (q - 21)) (wOf (q - 21))

/-- The credit of a DMA semaphore. -/
def dmaCr (q : ℕ) : ℕ := if q < 21 then cr (jOf (q - 3)) (wOf (q - 3)) else cr (jOf (q - 21)) (wOf (q - 21))

/-- One round: the barrier semaphore's three units, one from the partner on each axis; each copy's credit. -/
def Rd : Rounds.Schedule (GSem nD τ sig) (Fin 3) 𝕄 where
  duties g r := if r = 0 ∧ g.1.2 = .tc then
      (match g.2 with
        | .reg s => if s = barS then Finset.univ else ∅
        | .dma q => if 3 ≤ q.val then {0} else ∅)
    else ∅
  unitless _ := False
  amount g _ _ := match g.2 with
    | .reg _ => 1
    | .dma q => dmaCr q.val
  payload g _ d := match g.2 with
    | .reg _ => barPay g.1.1 d
    | .dma q => dmaPay A B g.1.1 q.val
  amount_pos g _ _ _ := by
    match g.2 with
    | .reg _ => exact Nat.one_pos
    | .dma q => show 0 < dmaCr q.val; unfold dmaCr; split <;> exact cr_pos _ _

/-- A conjunction of assertions that an invariant may hold is one. -/
instance sepAll_storable {ι : Type} (P : ι → sProp 𝕄) [∀ x, BI.Storable (upEmb : UEmb _ 𝕄) (P x)] (l : List ι) :
    BI.Storable (upEmb : UEmb _ 𝕄) (sepAll P l) := by
  induction l with
  | nil => rw [sepAll_nil]; infer_instance
  | cons x l ih => rw [sepAll_cons]; infer_instance

/-- Landing slots may be held by an invariant, -/
instance land_storable (c : Dev nD) (j : Fin 3) (w : Fin 6) : BI.Storable (upEmb : UEmb _ 𝕄) (land (F := F) c j w) := by
  unfold land; infer_instance
/-- so may what a barrier unit hands over, -/
instance barPay_storable (c : Dev nD) (a : Fin 3) : BI.Storable (upEmb : UEmb _ 𝕄) (barPay (F := F) c a) := by
  unfold barPay; infer_instance
/-- what a copy's semaphore hands over, -/
instance dmaPay_storable (c : Dev nD) (q : ℕ) : BI.Storable (upEmb : UEmb _ 𝕄) (dmaPay A B c q) := by
  unfold dmaPay sendPay recvPay
  (repeat' split) <;> infer_instance

/-- and every payload of the schedule. -/
instance Rd_payload_storable (g : GSem nD τ sig) (r : ℕ) (d : Fin 3) :
    BI.Storable (upEmb : UEmb _ 𝕄) ((Rd A B).payload g r d) := by
  obtain ⟨t, s⟩ := g
  cases s with
  | reg s => exact barPay_storable t.1 d
  | dma q => exact dmaPay_storable A B t.1 q.val

section Sched
variable (c : Dev nD) (j : Fin 3) (w : Fin 6)

/-- The barrier is raised by three devices, -/
theorem duties_bar : (Rd A B).duties (barCell c) 0 = Finset.univ := rfl
/-- a send semaphore once, -/
theorem duties_s : (Rd A B).duties (sCell c j w) 0 = {0} := by
  have h : 3 ≤ (sS j w).val := Nat.le_add_right _ _
  show (if 0 = 0 ∧ (sCell c j w).1.2 = .tc then (if 3 ≤ (sS j w).val then ({0} : Finset (Fin 3)) else ∅) else ∅) = _
  rw [if_pos ⟨rfl, rfl⟩, if_pos h]
/-- a receive semaphore once, -/
theorem duties_r : (Rd A B).duties (rCell c j w) 0 = {0} := by
  have h : 3 ≤ (rS j w).val := (by decide : 3 ≤ 21).trans (Nat.le_add_right _ _)
  show (if 0 = 0 ∧ (rCell c j w).1.2 = .tc then (if 3 ≤ (rS j w).val then ({0} : Finset (Fin 3)) else ∅) else ∅) = _
  rw [if_pos ⟨rfl, rfl⟩, if_pos h]
/-- and after the first round nothing is raised. -/
theorem duties_later (g : GSem nD τ sig) : ∀ r, 1 ≤ r → (Rd A B).duties g r = ∅ :=
  fun r hr => if_neg fun h => by omega

/-- A barrier unit is one, -/
theorem amount_bar (d : Fin 3) : (Rd A B).amount (barCell c) 0 d = 1 := rfl
/-- a send semaphore is raised by the copy's credit, -/
theorem amount_s (d : Fin 3) : (Rd A B).amount (sCell c j w) 0 d = cr j w := by
  show dmaCr (sS j w).val = _
  have hj := j.isLt; have hw := w.isLt
  have h : (sS j w).val < 21 := by show 3 + (6 * j.val + w.val) < 21; omega
  unfold dmaCr
  rw [if_pos h, sS_sub, jOf_eq, wOf_eq]
/-- and so is a receive semaphore. -/
theorem amount_r (d : Fin 3) : (Rd A B).amount (rCell c j w) 0 d = cr j w := by
  show dmaCr (rS j w).val = _
  have h : ¬ (rS j w).val < 21 := Nat.not_lt.mpr (Nat.le_add_right _ _)
  unfold dmaCr
  rw [if_neg h, rS_sub, jOf_eq, wOf_eq]

/-- The barrier's round is complete at three, -/
theorem expect_bar : (Rd A B).expect (barCell c) 0 = 3 := by
  unfold Schedule.expect Schedule.amountOf
  rw [duties_bar, Finset.sum_congr rfl fun d _ => amount_bar A B c d]
  rfl
/-- a send semaphore's at the copy's credit, -/
theorem expect_s : (Rd A B).expect (sCell c j w) 0 = cr j w := by
  unfold Schedule.expect Schedule.amountOf; rw [duties_s, Finset.sum_singleton, amount_s]
/-- and a receive semaphore's too. -/
theorem expect_r : (Rd A B).expect (rCell c j w) 0 = cr j w := by
  unfold Schedule.expect Schedule.amountOf; rw [duties_r, Finset.sum_singleton, amount_r]

/-- A barrier unit hands over landing slots, -/
theorem payload_bar (d : Fin 3) : (Rd A B).payload (barCell c) 0 d = barPay c d := rfl
/-- a send semaphore the slots sent, -/
theorem payload_s (d : Fin 3) : (Rd A B).payload (sCell c j w) 0 d = sendPay A B c j w := by
  show dmaPay A B c (sS j w).val = _
  have hj := j.isLt; have hw := w.isLt
  have h : (sS j w).val < 21 := by show 3 + (6 * j.val + w.val) < 21; omega
  have h' : ¬ (sS j w).val < 3 := Nat.not_lt.mpr (Nat.le_add_right _ _)
  unfold dmaPay
  rw [if_neg h', if_pos h, sS_sub, jOf_eq, wOf_eq]
/-- a receive semaphore the slots landed in. -/
theorem payload_r (d : Fin 3) : (Rd A B).payload (rCell c j w) 0 d = recvPay A B c j w := by
  show dmaPay A B c (rS j w).val = _
  have h : ¬ (rS j w).val < 21 := Nat.not_lt.mpr (Nat.le_add_right _ _)
  have h' : ¬ (rS j w).val < 3 := fun hh => h (hh.trans (by decide))
  unfold dmaPay
  rw [if_neg h', if_neg h, rS_sub, jOf_eq, wOf_eq]

/-- All a barrier wait brings. -/
theorem rest_bar : bigSep ((Rd A B).duties (barCell c) 0 \ ∅) (fun d => (Rd A B).payload (barCell c) 0 d)
    = sepAll (fun a => barPay (F := F) c a) [0, 1, 2] := by
  rw [Finset.sdiff_empty, duties_bar]
  exact sepAll_univ _ _ (by decide) (by decide)
/-- All that a wait for a send semaphore brings, -/
theorem rest_s : bigSep ((Rd A B).duties (sCell c j w) 0 \ ∅) (fun d => (Rd A B).payload (sCell c j w) 0 d) = sendPay A B c j w := by
  rw [Finset.sdiff_empty, duties_s, bigSep_singleton, payload_s]
/-- and for a receive semaphore. -/
theorem rest_r : bigSep ((Rd A B).duties (rCell c j w) 0 \ ∅) (fun d => (Rd A B).payload (rCell c j w) 0 d) = recvPay A B c j w := by
  rw [Finset.sdiff_empty, duties_r, bigSep_singleton, payload_r]

end Sched

/-! ## What is owed at launch, and the levels -/

/-- A barrier signal along an axis, or a copy. -/
abbrev Act : Type := Fin 3 ⊕ (Fin 3 × Fin 6)

/-- The semaphore an action of device `c` raises, -/
def actCell (c : Dev nD) : Act → GSem nD τ sig
  | .inl a => barCell (flip a c)
  | .inr x => rCell (pW x.1 x.2 c) x.1 x.2
/-- by how much, -/
def actAmt : Act → ℕ
  | .inl _ => 1
  | .inr x => cr x.1 x.2
/-- and its level. -/
def actLv : Act → ℕ
  | .inl _ => 1
  | .inr x => (![2, 2, 2, 3, 3, 4] : Fin 6 → ℕ) x.2

/-- What device `c` owes before the actions of a list. -/
def owedL (c : Dev nD) : List Act → CellTallies nD τ sig Unit
  | [] => 0
  | x :: l => owedL c l + tallyAt (actCell c x) () (actAmt x)

/-- The copies in program order, -/
def copies : List (Fin 3 × Fin 6) :=
  [(0, 0), (1, 0), (2, 0), (0, 1), (0, 2), (1, 1), (1, 2), (2, 1), (2, 2), (0, 3), (0, 4), (1, 3), (1, 4), (2, 3), (2, 4), (0, 5), (1, 5), (2, 5)]
/-- and all actions. -/
def acts : List Act := .inl 0 :: .inl 1 :: .inl 2 :: copies.map .inr

/-- Every semaphore of a TensorCore has a level. -/
def L (g : GSem nD τ sig) : Finset Unit := if g.1.2 = .tc then {()} else ∅
/-- Staging and send semaphores at 0, the barrier at 1, the receive semaphores at 2, 3, 4 by step. -/
def lv (g : GSem nD τ sig) (_ : Unit) : ℕ := match g.2 with
  | .reg _ => 1
  | .dma q => if q.val < 21 then 0 else (![2, 2, 2, 3, 3, 4] : Fin 6 → ℕ) (wOf (q.val - 21))

/-- The semaphores of other threads have none, -/
theorem L_of_ne (g : GSem nD τ sig) (h : g.1.2 ≠ .tc) : L g = ∅ := if_neg h
/-- a TensorCore's have one, -/
theorem L_tc (c : Dev nD) (sm : SemLoc sig) : L ((c : Thread nD τ), sm) = {()} := if_pos rfl
/-- so those that actions raise do. -/
theorem L_act (c : Dev nD) (x : Act) : L (actCell c x) = {()} := by cases x <;> exact if_pos rfl

/-- The level of a receive semaphore is that of its copy, -/
theorem lv_r (c : Dev nD) (j : Fin 3) (w : Fin 6) : lv (rCell c j w) () = actLv (.inr (j, w)) := by
  have h : ¬ (rS j w).val < 21 := Nat.not_lt.mpr (Nat.le_add_right _ _)
  show (if (rS j w).val < 21 then 0 else _) = _
  rw [if_neg h, rS_sub, wOf_eq]
  rfl
/-- the level of a send semaphore is 0, -/
theorem lv_s (c : Dev nD) (j : Fin 3) (w : Fin 6) : lv (sCell c j w) () = 0 := by
  have hj := j.isLt; have hw := w.isLt
  exact if_pos (show 3 + (6 * j.val + w.val) < 21 by omega)
/-- and an action's level is that of the semaphore that it raises. -/
theorem lv_act (c : Dev nD) (x : Act) : lv (actCell c x) () = actLv x := by
  cases x with
  | inl a => rfl
  | inr x => exact lv_r _ _ _

/-- What is owed is owed to the cell of an action of the list. -/
theorem owedL_pos (c : Dev nD) (l : List Act) {g : GSem nD τ sig} {u : Unit} (h : 0 < owedL c l g u) : ∃ x ∈ l, g = actCell c x := by
  induction l with
  | nil => exact absurd h (Nat.lt_irrefl 0)
  | cons x l ih =>
    unfold owedL at h
    rw [Pi.add_apply, Finsupp.add_apply, tallyAt_apply] at h
    by_cases hx : g = actCell c x ∧ u = ()
    · exact ⟨x, List.mem_cons_self, hx.1⟩
    · rw [if_neg hx, Nat.add_zero] at h
      obtain ⟨y, hy, hg⟩ := ih h
      exact ⟨y, List.mem_cons_of_mem _ hy, hg⟩

/-- A semaphore at level `n` may be waited for while only actions of greater levels are owed. -/
theorem mayWait (c : Dev nD) (sm : SemLoc sig) (n : ℕ) (hn : lv ((c : Thread nD τ), sm) () ≤ n) (l : List Act) (hl : ∀ x ∈ l, n < actLv x) :
    (levAts L lv : sProp 𝕄) ⊢ MayWait (c : Thread nD τ) sm () (owedL c l) :=
  MayOwe.of_cut (L := L) (lev := lv) n
    (fun p hp => by rw [Finset.mem_singleton.mp hp, L_tc]; exact Finset.mem_singleton_self _)
    (fun g u hg => by obtain ⟨x, -, rfl⟩ := owedL_pos c l hg; rw [L_act]; exact Finset.mem_singleton_self _)
    (fun p hp => by rw [Finset.mem_singleton.mp hp]; exact hn)
    (fun g u hg => by obtain ⟨x, hx, rfl⟩ := owedL_pos c l hg; rw [lv_act]; exact hl x hx)

end Cert.KernelIdeal.Pf
-- ==== Proof.KernelIdeal.Steps.lean ====
/-
The steps of the protocol: a signal, the barrier's wait, a copy, and the waits on a copy's two semaphores, each as a
rule for one operation of the program.
-/
module

public import proofs.«01_k».proof.Proof.KernelIdeal.Sched

@[expose] public section

set_option maxRecDepth 16384

noncomputable section

namespace Cert.KernelIdeal.Pf

open Cert.KernelIdeal Cert.KernelIdeal.Gen Cert.Holds
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program has no loop, so no loop variants are needed. -/
abbrev 𝒱₀ : Variants := Variants.none

/-! ## The semaphores of the program -/

/-- Entry `(j, w)` of an array of consecutive semaphores. -/
theorem sem_entry {n : ℕ} (base : ℕ) (hb : base + S3x6.numel ≤ n) (j : Fin 3) (w : Fin 6)
    (h : ∀ a, (![j.val, w.val] : Fin 2 → ℕ) a + S1x1.size a ≤ S3x6.size a) (hq : S1x1.Squeezes S_) :
    (((SemArray.consecutive base S3x6 hb).slice (Rect.unit (s := S3x6) ![j.val, w.val] S1x1.size h)).squeeze S_ hq).sem.val
      = base + (6 * j.val + w.val) := by
  show base + (S3x6.rowMajor ((Rect.unit (s := S3x6) ![j.val, w.val] S1x1.size h).emb (Shape.reshapeEquiv hq.numel_eq _))).val = _
  rw [Shape.rowMajor_val_two]
  generalize Shape.reshapeEquiv hq.numel_eq _ = i
  have h0 : (i 0).val < 1 := (i 0).isLt
  have h1 : (i 1).val < 1 := (i 1).isLt
  have e0 : ((Rect.unit (s := S3x6) ![j.val, w.val] S1x1.size h).emb i 0).val = j.val + 1 * (i 0).val := rfl
  have e1 : ((Rect.unit (s := S3x6) ![j.val, w.val] S1x1.size h).emb i 1).val = w.val + 1 * (i 1).val := rfl
  rw [e0, e1]
  show base + ((j.val + 1 * (i 0).val) * 6 + (w.val + 1 * (i 1).val)) = _
  omega

/-- Entry `(j, w)` of the array of send semaphores, -/
theorem semS (j : Fin 3) (w : Fin 6) (h : ∀ a, (![j.val, w.val] : Fin 2 → ℕ) a + S1x1.size a ≤ S3x6.size a) (hq : S1x1.Squeezes S_) :
    ((SemArray.slice cc0_scratch23 (Rect.unit (s := S3x6) ![j.val, w.val] S1x1.size h)).squeeze S_ hq).sem = sS j w :=
  Fin.ext (sem_entry 3 _ j w h hq)

/-- and of the array of receive semaphores. -/
theorem semR (j : Fin 3) (w : Fin 6) (h : ∀ a, (![j.val, w.val] : Fin 2 → ℕ) a + S1x1.size a ≤ S3x6.size a) (hq : S1x1.Squeezes S_) :
    ((SemArray.slice cc0_scratch24 (Rect.unit (s := S3x6) ![j.val, w.val] S1x1.size h)).squeeze S_ hq).sem = rS j w :=
  Fin.ext (sem_entry 21 _ j w h hq)

/-! ## What a device holds for each step -/

variable (A : Dev nD → Vec F S1536x768 .f32) (B : Dev nD → Vec F S768x1536 .f32) (K : GSem nD τ sig → ℕ)

/-- The invariant of a semaphore, and that its first round is reached. -/
def known (g : GSem nD τ sig) : sProp 𝕄 := iprop(cellInv ER (Rd A B) (K g) g ∗ reached ER g 0)

/-- Knowing a semaphore may be copied. -/
instance known_persistent (g : GSem nD τ sig) : BI.Persistent (known A B K g) := by unfold known; infer_instance

/-- For the barrier signal along an axis: the semaphore known and the duty to raise it. -/
def sigKit (c : Dev nD) (a : Fin 3) : sProp 𝕄 := iprop(known A B K (barCell (flip a c)) ∗ dutyTok ER (barCell (flip a c)) 0 a)
/-- For the barrier's wait: the semaphore known, the credit of its three units, and the position before them. -/
def barKit (c : Dev nD) : sProp 𝕄 :=
  iprop(known A B K (barCell c) ∗ cred (tallyAt (barCell c) () 3) ∗ atPos ER (barCell c) 0 ∅ 0)
/-- For a copy: both semaphores known and both duties. -/
def fireKit (c : Dev nD) (x : Fin 3 × Fin 6) : sProp 𝕄 :=
  iprop(known A B K (sCell c x.1 x.2) ∗ known A B K (rCell (pW x.1 x.2 c) x.1 x.2)
    ∗ dutyTok ER (sCell c x.1 x.2) 0 0 ∗ dutyTok ER (rCell (pW x.1 x.2 c) x.1 x.2) 0 0)
/-- For the wait for a copy to arrive: the semaphore known, its credit, the position. -/
def recvKit (c : Dev nD) (x : Fin 3 × Fin 6) : sProp 𝕄 :=
  iprop(known A B K (rCell c x.1 x.2) ∗ cred (tallyAt (rCell c x.1 x.2) () (cr x.1 x.2)) ∗ atPos ER (rCell c x.1 x.2) 0 ∅ 0)
/-- For the wait for a copy to have been sent: the semaphore known and the position; -/
def sendKit (c : Dev nD) (x : Fin 3 × Fin 6) : sProp 𝕄 :=
  iprop(known A B K (sCell c x.1 x.2) ∗ atPos ER (sCell c x.1 x.2) 0 ∅ 0)
/-- its credit comes when the copy is made. -/
def sentCred (c : Dev nD) (x : Fin 3 × Fin 6) : sProp 𝕄 := cred (tallyAt (sCell c x.1 x.2) () (cr x.1 x.2))

/-- What a device owes before the actions of a list, whatever it has waited for. -/
def owing (c : Dev nD) (l : List Act) : sProp 𝕄 := iprop(∃ W, owes (c : Thread nD τ) (owedL c l) W)

/-- The semaphores of a copy, spent. -/
def doneR (c : Dev nD) (x : Fin 3 × Fin 6) : sProp 𝕄 := semVal (rCell c x.1 x.2) 0
/-- The same of its send semaphore. -/
def doneS (c : Dev nD) (x : Fin 3 × Fin 6) : sProp 𝕄 := semVal (sCell c x.1 x.2) 0

/-- Landing slots handed over by a partner are the partner's to hand over. -/
theorem land_own (c : Dev nD) (a : Fin 3) (w : Fin 6) :
    land (F := F) (flip a c) (a - tW w) w = anyOn (c : Thread nD τ) (rcv (tW w) (a - tW w)) (rW w).set := by
  unfold land
  rw [show pW (a - tW w) w (flip a c) = c from by unfold pW ax; rw [show a - tW w + tW w = a from by generalize tW w = t; revert a t; decide, flip_flip]]

/-! ## The rules -/

section Rules
variable (c : Dev nD)

/-- A barrier signal: the landing slots of the copies along its axis are handed over. -/
theorem wp_sig (a : Fin 3) (n : Dev nD) (hn : n = flip a c) (l : List Act)
    {α : Type} {Q : α → sProp 𝕄} {k : PUnit → Prog (TpuEff nD τ sig (Elt F) Λ₀ .tc) α} :
    (sigKit A B K c a)
      ⊢ iprop(barPay (F := F) (flip a c) a -∗ owing c (.inl a :: l) -∗ (owing c l -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS (1#32).toNat) k) Q) := by
  subst hn
  unfold sigKit known owing
  iintro ⟨⟨HI, Hr⟩, Ht⟩ Hp ⟨%W, HO⟩ Hk
  iapply (Rounds.wp_signal 𝒱₀ ER (Rd A B) (c : Thread nD τ) none (dst := (flip a c : Thread nD τ)) (κ := K (barCell (flip a c)))
      (d := a) (by rw [duties_bar]; exact Finset.mem_univ _) (amount_bar A B (flip a c) a) () (owedL c l) rfl)
    $$ [HI HO Ht Hp Hr]
  · isplitl [HI]; · iexact HI
    isplitl [HO]; · iexact HO
    isplitl [Ht]; · iexact Ht
    isplitl [Hp]; · rw [payload_bar]; iexact Hp
    iexact Hr
  iintro HO
  iapply Hk
  iexists W; iexact HO

/-- The barrier's wait: the partners hand over the landing slots of this device's copies. -/
theorem wp_bar (l : List Act) (hl : ∀ x ∈ l, 1 < actLv x) {α : Type} {Q : α → sProp 𝕄} {k : PUnit → Prog (TpuEff nD τ sig (Elt F) Λ₀ .tc) α} :
    (barKit A B K c)
      ⊢ iprop(owing c l -∗ levAts L lv -∗ (owing c l ∗ sepAll (fun a => barPay (F := F) c a) [0, 1, 2] ∗ semVal (barCell c) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toNat) k) Q) := by
  unfold barKit known owing
  iintro ⟨⟨#HI, -⟩, Hc, Hat⟩ ⟨%W, HO⟩ #Hlev Hk
  iapply (Rounds.wp_wait_rest_token 𝒱₀ ER (Rd A B) (c : Thread nD τ) none (κ := K (barCell c))
      (wpE_semWait_eq 𝒱₀ (c : Thread nD τ) none Set.univ) (Set.mem_univ _) () (O := owedL c l) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barS) 1 (Nat.le_refl 1) l hl); iexact Hlev
    iexact Hat
  iintro ⟨HO, Hat, -, Hpay⟩
  ihave Hp := (BIBase.Entails.of_eq (rest_bar A B c)) $$ Hpay
  imod (Rounds.cell_close ER (Rd A B) (Set.mem_univ (K (barCell c))) (fun h => h) (R := 0 + 1) (duties_later A B (barCell c))) $$ [Hat] with Hz
  · isplitr; · iexact HI
    iexact Hat
  iapply Hk
  isplitl [HO]; · iexists _; iexact HO
  isplitl [Hp]; · iexact Hp
  iexact Hz

/-- The wait for a copy to arrive: the slots it lands in hold what the sender's held. -/
theorem wp_recv (j : Fin 3) (w : Fin 6) (q : DmaSem sig) (hq : q = rS j w) (l : List Act) (hl : ∀ x ∈ l, actLv (.inr (j, w)) < actLv x)
    {sp sp' : Space} {s s' : Shape} {e e' : EltTy} {src : Memref sig .tc sp s e} {dst : Memref sig .tc sp' s' e'}
    {h₁ : src.view.WordExact} {h₂ : dst.view.WordExact} (hcr : dst.view.dmaCredit = cr j w)
    {α : Type} {Q : α → sProp 𝕄} {k : PUnit → Prog (TpuEff nD τ sig (Elt F) Λ₀ .tc) α} :
    (recvKit A B K c (j, w))
      ⊢ iprop(owing c l -∗ levAts L lv -∗ (owing c l ∗ recvPay A B c j w ∗ doneR c (j, w) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  subst hq
  unfold recvKit known owing doneR
  iintro ⟨⟨#HI, -⟩, Hc, Hat⟩ ⟨%W, HO⟩ #Hlev Hk
  iapply (Rounds.wp_wait_rest_token 𝒱₀ ER (Rd A B) (c : Thread nD τ) none (κ := K (rCell c j w))
      (wpE_waitDma2_eq 𝒱₀ (c : Thread nD τ) none Set.univ) (Set.mem_univ _) () (O := owedL c l) (W := W) (R := 0) (m := 0) (T := ∅)
      (by rw [Nat.zero_add, expect_r, hcr])) $$ [Hc HO Hat]
  · isplitr; · iexact HI
    isplitl [Hc]; · rw [hcr]; iexact Hc
    isplitl [HO]; · iexact HO
    isplitr; · iapply (mayWait c (.dma (rS j w)) (actLv (.inr (j, w))) (Nat.le_of_eq (lv_r c j w)) l hl); iexact Hlev
    iexact Hat
  iintro ⟨HO, Hat, -, Hpay⟩
  ihave Hp := (BIBase.Entails.of_eq (rest_r A B c j w)) $$ Hpay
  imod (Rounds.cell_close ER (Rd A B) (Set.mem_univ (K (rCell c j w))) (fun h => h) (R := 0 + 1) (duties_later A B (rCell c j w))) $$ [Hat] with Hz
  · isplitr; · iexact HI
    iexact Hat
  iapply Hk
  isplitl [HO]; · iexists _; iexact HO
  isplitl [Hp]; · iexact Hp
  iexact Hz

/-- The wait for a copy to have been sent: the slots it was sent from are back. -/
theorem wp_sent (j : Fin 3) (w : Fin 6) (q : DmaSem sig) (hq : q = sS j w) (l : List Act) (hl : ∀ x ∈ l, 0 < actLv x)
    {sp sp' : Space} {s s' : Shape} {e e' : EltTy} {src : Memref sig .tc sp s e} {dst : Memref sig .tc sp' s' e'}
    {h₁ : src.view.WordExact} {h₂ : dst.view.WordExact} (hcr : dst.view.dmaCredit = cr j w)
    {α : Type} {Q : α → sProp 𝕄} {k : PUnit → Prog (TpuEff nD τ sig (Elt F) Λ₀ .tc) α} :
    (sendKit A B K c (j, w))
      ⊢ iprop(sentCred (F := F) c (j, w) -∗ owing c l -∗ levAts L lv -∗ (owing c l ∗ sendPay A B c j w ∗ doneS c (j, w) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  subst hq
  unfold sendKit known owing doneS sentCred
  iintro ⟨⟨#HI, -⟩, Hat⟩ Hc ⟨%W, HO⟩ #Hlev Hk
  iapply (Rounds.wp_wait_rest_token 𝒱₀ ER (Rd A B) (c : Thread nD τ) none (κ := K (sCell c j w))
      (wpE_waitDma2_eq 𝒱₀ (c : Thread nD τ) none Set.univ) (Set.mem_univ _) () (O := owedL c l) (W := W) (R := 0) (m := 0) (T := ∅)
      (by rw [Nat.zero_add, expect_s, hcr])) $$ [Hc HO Hat]
  · isplitr; · iexact HI
    isplitl [Hc]; · rw [hcr]; iexact Hc
    isplitl [HO]; · iexact HO
    isplitr; · iapply (mayWait c (.dma (sS j w)) 0 (Nat.le_of_eq (lv_s c j w)) l hl); iexact Hlev
    iexact Hat
  iintro ⟨HO, Hat, -, Hpay⟩
  ihave Hp := (BIBase.Entails.of_eq (rest_s A B c j w)) $$ Hpay
  imod (Rounds.cell_close ER (Rd A B) (Set.mem_univ (K (sCell c j w))) (fun h => h) (R := 0 + 1) (duties_later A B (sCell c j w))) $$ [Hat] with Hz
  · isplitr; · iexact HI
    iexact Hat
  iapply Hk
  isplitl [HO]; · iexists _; iexact HO
  isplitl [Hp]; · iexact Hp
  iexact Hz

/-- A copy: its slots, holding what they are to hold, and the partner's landing slots go; the credit of its sending
    comes. -/
theorem wp_fire (j : Fin 3) (w : Fin 6) (n : Dev nD) (hn : n = pW j w c) (q q' : DmaSem sig) (hq : q = sS j w) (hq' : q' = rS j w)
    (l : List Act) {hsc : (rM j w).view.ref.isScScratch = false} {hsrc : (sM j w).view.WordExact} {hdst : (rM j w).view.WordExact}
    {hsem : DmaTarget.Typed .vmem (.dma q') (.remote (Dev.tc n : Thread nD τ) (rM j w) (.dma q) hsc)}
    {α : Type} {Q : α → sProp 𝕄} {k : PUnit → Prog (TpuEff nD τ sig (Elt F) Λ₀ .tc) α} :
    (fireKit A B K c (j, w))
      ⊢ iprop(land (F := F) c j w -∗ sendPay A B c j w -∗ owing c (.inr (j, w) :: l) -∗ (owing c l ∗ sentCred c (j, w) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM j w) (.remote (Dev.tc n : Thread nD τ) (rM j w) (.dma q) hsc) (.dma q') hsrc hdst hsem) k) Q) := by
  subst hn hq hq'
  unfold fireKit known owing sentCred land sendPay
  iintro ⟨⟨HI₁, Hr₁⟩, ⟨HI₂, Hr₂⟩, Ht₁, Ht₂⟩ Hd Hs ⟨%W, HO⟩ Hk
  iapply (wp_send_holds (Ix := Unit) (Name := ℕ) (U := UU) (Lvl := ℕ) 𝒱₀ ER (Rd A B) (c : Thread nD τ) (pW j w c : Thread nD τ) none (snd (tW w) j) (rcv (tW w) j) (rW w) (fun _ => rfl)
      (sndV A B c (tW w) j) (κ₁ := K (sCell c j w)) (κ₂ := K (rCell (pW j w c) j w)) (r₁ := 0) (r₂ := 0) (d₁ := 0) (d₂ := 0)
      (by rw [duties_s]; exact Finset.mem_singleton_self _) (by rw [duties_r]; exact Finset.mem_singleton_self _)
      () () (cr j w) rfl (amount_s A B c j w 0) (amount_r A B (pW j w c) j w 0) (owedL c l) rfl (W := W)
      (by rw [payload_s]; unfold sendPay; exact BIBase.Entails.rfl)
      (by rw [payload_r]; unfold recvPay; rw [show pW j w (pW j w c) = c from flip_flip _ c])) $$ [HI₁ HI₂ Hs Hd HO Ht₁ Hr₁ Ht₂ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [HO]; · iexists _; iexact HO
  iexact Hc

/-! ## The rules on what remains to be done -/

/-- The copies still to be made, with what each needs, and those made. -/
def Fires (l fd : List (Fin 3 × Fin 6)) : sProp 𝕄 :=
  iprop(owing c (l.map .inr) ∗ sepAll (fireKit A B K c) l ∗ sepAll (fun x : Fin 3 × Fin 6 => land (F := F) c x.1 x.2) l ∗ sepAll (sentCred c) fd)
/-- The copies still to be received, and those received. -/
def Recvs (l dn : List (Fin 3 × Fin 6)) : sProp 𝕄 := iprop(sepAll (recvKit A B K c) l ∗ sepAll (doneR c) dn)
/-- The copies whose sending is still to be waited for, and those sent. -/
def Sends (l dn : List (Fin 3 × Fin 6)) : sProp 𝕄 :=
  iprop(sepAll (sendKit A B K c) l ∗ sepAll (sentCred c) l ∗ sepAll (doneS c) dn)

/-- Starting the next copy: its slots are given up, and it is no longer among those to be started. -/
theorem fires_pop (j : Fin 3) (w : Fin 6) (n : Dev nD) (hn : n = pW j w c) (q q' : DmaSem sig) (hq : q = sS j w) (hq' : q' = rS j w)
    (l fd : List (Fin 3 × Fin 6)) {hsc : (rM j w).view.ref.isScScratch = false} {hsrc : (sM j w).view.WordExact} {hdst : (rM j w).view.WordExact}
    {hsem : DmaTarget.Typed .vmem (.dma q') (.remote (Dev.tc n : Thread nD τ) (rM j w) (.dma q) hsc)}
    {α : Type} {Q : α → sProp 𝕄} {k : PUnit → Prog (TpuEff nD τ sig (Elt F) Λ₀ .tc) α} :
    (Fires A B K c ((j, w) :: l) fd)
      ⊢ iprop(sendPay A B c j w -∗ (Fires A B K c l ((j, w) :: fd) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM j w) (.remote (Dev.tc n : Thread nD τ) (rM j w) (.dma q) hsc) (.dma q') hsrc hdst hsem) k) Q) := by
  unfold Fires
  rw [List.map_cons, sepAll_cons, sepAll_cons, sepAll_cons]
  iintro ⟨HO, ⟨Hf, Hfs⟩, ⟨Hl, Hls⟩, Hc⟩ Hs Hk
  iapply (wp_fire A B K c j w n hn q q' hq hq' (l.map .inr)) $$ Hf Hl Hs HO
  iintro ⟨HO, Hs⟩
  iapply Hk
  iframe HO Hfs Hls Hs Hc

/-- Waiting for a copy to arrive: its landing slots come, holding what the sender's held. -/
theorem recvs_pop (j : Fin 3) (w : Fin 6) (q : DmaSem sig) (hq : q = rS j w) (l fd r dn : List (Fin 3 × Fin 6))
    (hl : ∀ x ∈ l, actLv (.inr (j, w)) < actLv (.inr x))
    {sp sp' : Space} {s s' : Shape} {e e' : EltTy} {src : Memref sig .tc sp s e} {dst : Memref sig .tc sp' s' e'}
    {h₁ : src.view.WordExact} {h₂ : dst.view.WordExact} (hcr : dst.view.dmaCredit = cr j w)
    {α : Type} {Q : α → sProp 𝕄} {k : PUnit → Prog (TpuEff nD τ sig (Elt F) Λ₀ .tc) α} :
    (Fires A B K c l fd)
      ⊢ iprop(Recvs A B K c ((j, w) :: r) dn -∗ levAts L lv
          -∗ (Fires A B K c l fd ∗ Recvs A B K c r ((j, w) :: dn) ∗ recvPay A B c j w -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  unfold Fires Recvs
  rw [sepAll_cons, sepAll_cons]
  iintro ⟨HO, Hfs⟩ ⟨⟨Hr, Hrs⟩, Hd⟩ Hlev Hk
  iapply (wp_recv A B K c j w q hq (l.map .inr) (by
    intro x hx; obtain ⟨y, hy, rfl⟩ := List.mem_map.mp hx; exact hl y hy) hcr) $$ Hr HO Hlev
  iintro ⟨HO, Hp, Hz⟩
  iapply Hk
  iframe HO Hfs Hrs Hz Hd Hp

/-- Waiting for a copy to have been sent: the slots come back. -/
theorem sends_pop (j : Fin 3) (w : Fin 6) (q : DmaSem sig) (hq : q = sS j w) (r dn : List (Fin 3 × Fin 6))
    {sp sp' : Space} {s s' : Shape} {e e' : EltTy} {src : Memref sig .tc sp s e} {dst : Memref sig .tc sp' s' e'}
    {h₁ : src.view.WordExact} {h₂ : dst.view.WordExact} (hcr : dst.view.dmaCredit = cr j w)
    {α : Type} {Q : α → sProp 𝕄} {k : PUnit → Prog (TpuEff nD τ sig (Elt F) Λ₀ .tc) α} :
    (owing c [])
      ⊢ iprop(Sends A B K c ((j, w) :: r) dn -∗ levAts L lv
          -∗ (owing c [] ∗ Sends A B K c r ((j, w) :: dn) ∗ sendPay A B c j w -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  unfold Sends
  rw [sepAll_cons, sepAll_cons, sepAll_cons]
  iintro HO ⟨⟨Hr, Hrs⟩, ⟨Hc, Hcs⟩, Hd⟩ Hlev Hk
  iapply (wp_sent A B K c j w q hq [] (by intro x hx; cases hx) hcr) $$ Hr Hc HO Hlev
  iintro ⟨HO, Hp, Hz⟩
  iapply Hk
  iframe HO Hrs Hcs Hz Hd Hp

end Rules

end Cert.KernelIdeal.Pf
-- ==== Proof.KernelIdeal.Pieces.lean ====
/-
Buffers taken apart into the pieces the steps work on and put together again, and the values the computing steps store.
-/
module

public import proofs.«01_k».proof.Proof.KernelIdeal.Steps

@[expose] public section

set_option maxRecDepth 16384

noncomputable section

namespace Cert.KernelIdeal.Pf

open Cert.KernelIdeal Cert.KernelIdeal.Gen Cert.Holds
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- `m`'s coordinates `S` on device `c`, at any contents. -/
abbrev av {sh : Shape} {e : EltTy} (c : Dev nD) (m : Memref sig .tc .vmem sh e) (S : Finset sh.Idx) : sProp 𝕄 :=
  anyOn (Ix := Unit) (Name := ℕ) (U := UU) (Lvl := ℕ) (Val := Elt F) (c : Thread nD τ) m S
/-- `m`'s coordinates `S` on device `c`, holding `X`. -/
abbrev hv {sh : Shape} {e : EltTy} (c : Dev nD) (m : Memref sig .tc .vmem sh e) (S : Finset sh.Idx) (X : sh.Idx → Elt F e) : sProp 𝕄 :=
  holds (Ix := Unit) (Name := ℕ) (U := UU) (Lvl := ℕ) (c : Thread nD τ) m S X

section Split
variable (c : Dev nD) {e : EltTy}

/-- The slot `s` of a buffer of `n`. -/
abbrev sl (n s : ℕ) (h : s + 1 ≤ n := by decide) : Finset (SN n).Idx := (runR n s 1 h).set

/-- A buffer of four slots is the three runs of the first step's copies, -/
theorem runs4 : (Finset.univ : Finset (SN 4).Idx) = (runR 4 0 1 (by decide)).set ∪ ((runR 4 1 1 (by decide)).set ∪ (runR 4 2 2 (by decide)).set) := by
  rw [← runR_all 4, runR_split 4 0 1 3 (by decide), runR_split 4 (0 + 1) 1 2 (by decide)]
/-- a buffer of two is its slots, -/
theorem runs2 : (Finset.univ : Finset (SN 2).Idx) = sl 2 0 ∪ sl 2 1 := by
  rw [← runR_all 2, runR_split 2 0 1 1 (by decide)]
/-- and the run of two slots is the two. -/
theorem runs22 : (runR 4 2 2 (by decide)).set = sl 4 2 ∪ sl 4 3 := runR_split 4 2 1 1 (by decide)
/-- The lowest run is apart from the other two. -/
theorem runs4_disj : Disjoint (runR 4 0 1 (by decide)).set ((runR 4 1 1 (by decide)).set ∪ (runR 4 2 2 (by decide)).set) :=
  Finset.disjoint_union_right.mpr ⟨runR_disj _ _ _ _ _ _ _ (by decide), runR_disj _ _ _ _ _ _ _ (by decide)⟩

/-- A buffer of four slots as the runs of the first step's copies, -/
theorem four_runs (m : Memref sig .tc .vmem (SN 4) e) :
    (av (F := F) c m Finset.univ) ⊢ iprop(av c m (runR 4 2 2 (by decide)).set ∗ av c m (sl 4 1) ∗ av c m (sl 4 0)) := by
  rw [runs4]
  iintro H
  ihave ⟨H0, H⟩ := (any_split (c : Thread nD τ) m runs4_disj) $$ H
  ihave ⟨H1, H2⟩ := (any_split (c : Thread nD τ) m (runR_disj 4 1 1 2 2 _ _ (by decide))) $$ H
  iframe H2 H1 H0
/-- and back, -/
theorem runs_four (m : Memref sig .tc .vmem (SN 4) e) :
    iprop(av (F := F) c m (runR 4 2 2 (by decide)).set ∗ av c m (sl 4 1) ∗ av c m (sl 4 0)) ⊢ av c m Finset.univ := by
  rw [runs4]
  iintro ⟨H2, H1, H0⟩
  iapply (any_join (c : Thread nD τ) m runs4_disj) $$ [H0 H1 H2]
  isplitl [H0]; · iexact H0
  iapply (any_join (c : Thread nD τ) m (runR_disj 4 1 1 2 2 _ _ (by decide))) $$ [H1 H2]
  iframe H1 H2
/-- and as its slots, -/
theorem four_slots (m : Memref sig .tc .vmem (SN 4) e) :
    (av (F := F) c m Finset.univ) ⊢ iprop(av c m (sl 4 3) ∗ av c m (sl 4 2) ∗ av c m (sl 4 1) ∗ av c m (sl 4 0)) := by
  iintro H
  ihave ⟨H, H1, H0⟩ := (four_runs c m) $$ H
  rw [runs22]
  ihave ⟨H2, H3⟩ := (any_split (c : Thread nD τ) m (runR_disj 4 2 1 3 1 _ _ (by decide))) $$ H
  iframe H3 H2 H1 H0
/-- and back. -/
theorem slots_four (m : Memref sig .tc .vmem (SN 4) e) :
    iprop(av (F := F) c m (sl 4 3) ∗ av c m (sl 4 2) ∗ av c m (sl 4 1) ∗ av c m (sl 4 0)) ⊢ av c m Finset.univ := by
  iintro ⟨H3, H2, H1, H0⟩
  iapply (runs_four c m) $$ [H3 H2 H1 H0]
  rw [runs22]
  iframe H1 H0
  iapply (any_join (c : Thread nD τ) m (runR_disj 4 2 1 3 1 _ _ (by decide))) $$ [H2 H3]
  iframe H2 H3
/-- The first two slots sent together. -/
theorem two_join (m : Memref sig .tc .vmem (SN 4) e) (X : (SN 4).Idx → Elt F e) :
    (hv c m (sl 4 2) X) ⊢ iprop(hv c m (sl 4 3) X -∗ hv c m (runR 4 2 2 (by decide)).set X) := by
  rw [runs22]
  iintro H2 H3
  iapply (holds_join (c : Thread nD τ) m (runR_disj 4 2 1 3 1 _ _ (by decide))) $$ [H2 H3]
  iframe H2 H3

/-- A buffer of two slots as its slots, -/
theorem two_slots (m : Memref sig .tc .vmem (SN 2) e) :
    (av (F := F) c m Finset.univ) ⊢ iprop(av c m (sl 2 1) ∗ av c m (sl 2 0)) := by
  rw [runs2]
  iintro H
  ihave ⟨H0, H1⟩ := (any_split (c : Thread nD τ) m (runR_disj 2 0 1 1 1 _ _ (by decide))) $$ H
  iframe H1 H0
/-- and back. -/
theorem slots_two (m : Memref sig .tc .vmem (SN 2) e) :
    iprop(av (F := F) c m (sl 2 1) ∗ av c m (sl 2 0)) ⊢ av c m Finset.univ := by
  rw [runs2]
  iintro ⟨H1, H0⟩
  iapply (any_join (c : Thread nD τ) m (runR_disj 2 0 1 1 1 _ _ (by decide))) $$ [H0 H1]
  iframe H0 H1
/-- A buffer of one slot is its slot. -/
theorem one_slot (m : Memref sig .tc .vmem (SN 1) e) : av (F := F) c m Finset.univ = av c m (sl 1 0) := by
  rw [← runR_all 1]

/-- A matrix as its thirds, -/
theorem three_cols {n : ℕ} (m : Memref sig .tc .vmem ⟨2, ![n, 1536]⟩ e) :
    (av (F := F) c m Finset.univ) ⊢ iprop(av c m (colR n 0).set ∗ av c m (colR n 1).set ∗ av c m (colR n 2).set) := by
  rw [colR_all]
  iintro H
  ihave ⟨H0, H⟩ := (any_split (c : Thread nD τ) m (colR_disj n)) $$ H
  ihave ⟨H1, H2⟩ := (any_split (c : Thread nD τ) m (colR_disj' n)) $$ H
  iframe H0 H1 H2
/-- and back, -/
theorem cols_three {n : ℕ} (m : Memref sig .tc .vmem ⟨2, ![n, 1536]⟩ e) :
    iprop(av (F := F) c m (colR n 0).set ∗ av c m (colR n 1).set ∗ av c m (colR n 2).set) ⊢ av c m Finset.univ := by
  rw [colR_all]
  iintro ⟨H0, H1, H2⟩
  iapply (any_join (c : Thread nD τ) m (colR_disj n)) $$ [H0 H1 H2]
  isplitl [H0]; · iexact H0
  iapply (any_join (c : Thread nD τ) m (colR_disj' n)) $$ [H1 H2]
  iframe H1 H2
/-- with what they hold. -/
theorem cols_holds {n : ℕ} (m : Memref sig .tc .vmem ⟨2, ![n, 1536]⟩ e) (X : (⟨2, ![n, 1536]⟩ : Shape).Idx → Elt F e) :
    iprop(hv c m (colR n 0).set X ∗ hv c m (colR n 1).set X ∗ hv c m (colR n 2).set X) ⊢ hv c m Finset.univ X := by
  rw [colR_all]
  iintro ⟨H0, H1, H2⟩
  iapply (holds_join (c : Thread nD τ) m (colR_disj n)) $$ [H0 H1 H2]
  isplitl [H0]; · iexact H0
  iapply (holds_join (c : Thread nD τ) m (colR_disj' n)) $$ [H1 H2]
  iframe H1 H2

end Split

/-! ## What is handed over at the barrier -/

/-- A device's landing buffers for the copies along an axis are what it hands the partner there. -/
theorem give (c : Dev nD) (a : Fin 3) :
    iprop(av (F := F) c (rcv 0 a) Finset.univ ∗ av c (rcv 1 (a - 1)) Finset.univ ∗ av c (rcv 2 (a - 2)) Finset.univ) ⊢ barPay (flip a c) a := by
  unfold barPay
  simp only [sepAll_cons, sepAll_nil, land_own]
  iintro ⟨H0, H1, H2⟩
  ihave ⟨H00, H01, H02⟩ := (show av (F := F) c (rcv 0 a) Finset.univ ⊢ iprop(av c (rcv 0 a) (rW 0).set ∗ av c (rcv 0 a) (rW 1).set ∗ av c (rcv 0 a) (rW 2).set)
    from four_runs c (rcv 0 a)) $$ H0
  ihave ⟨H10, H11⟩ := (show av (F := F) c (rcv 1 (a - 1)) Finset.univ ⊢ iprop(av c (rcv 1 (a - 1)) (rW 3).set ∗ av c (rcv 1 (a - 1)) (rW 4).set)
    from two_slots c (rcv 1 (a - 1))) $$ H1
  ihave H20 := (show av (F := F) c (rcv 2 (a - 2)) Finset.univ ⊢ av c (rcv 2 (a - 2)) (rW 5).set
    from BIBase.Entails.of_eq (one_slot c (rcv 2 (a - 2)))) $$ H2
  have e0 : a - tW 0 = a := by revert a; decide
  have e1 : a - tW 1 = a := by revert a; decide
  have e2 : a - tW 2 = a := by revert a; decide
  isplitl [H00]; · rw [e0]; iexact H00
  isplitl [H01]; · rw [e1]; iexact H01
  isplitl [H02]; · rw [e2]; iexact H02
  isplitl [H10]; · iexact H10
  isplitl [H11]; · iexact H11
  isplitl [H20]; · iexact H20
  iempintro

/-- What the partners hand over are the landing slots of the device's copies. -/
theorem got (c : Dev nD) :
    sepAll (fun a => barPay (F := F) c a) [0, 1, 2] ⊢ sepAll (fun x : Fin 3 × Fin 6 => land c x.1 x.2) copies := by
  refine BIBase.Entails.trans ?_ (sepAll_perm (fun x : Fin 3 × Fin 6 => land (F := F) c x.1 x.2) (l := [(0, 0), (0, 1), (0, 2), (2, 3), (2, 4), (1, 5), (1, 0), (1, 1), (1, 2), (0, 3), (0, 4), (2, 5), (2, 0), (2, 1), (2, 2), (1, 3), (1, 4), (0, 5)]) (by decide))
  unfold barPay
  simp only [sepAll_cons, sepAll_nil]
  iintro ⟨⟨H0, H1, H2, H3, H4, H5, -⟩, ⟨G0, G1, G2, G3, G4, G5, -⟩, ⟨I0, I1, I2, I3, I4, I5, -⟩, -⟩
  iframe H0 H1 H2 H3 H4 H5 G0 G1 G2 G3 G4 G5 I0 I1 I2 I3 I4 I5

/-! ## What the computing steps store -/

section Values
variable (A : Dev nD → Vec F S1536x768 .f32) (B : Dev nD → Vec F S768x1536 .f32) (c : Dev nD) (j : Fin 3)

/-- The row offset of a slot's chunk, with the device number written as bits flipped. -/
theorem ch (s : Fin 8) : chOff (xorDev ((![![0,4,3,7,1,5,2,6], ![0,1,4,5,3,2,7,6], ![0,3,1,2,4,7,5,6]] : Fin 3 → Fin 8 → Dev nD) j s) c) = chOff (chunkOf j s c) :=
  congrArg chOff (chunkOf_eq j s c).symm

/-- A third of the narrowed right operand is the narrowing of that third. -/
theorem third_val (h : ∀ a, (![0, colOff j] : Fin 2 → ℕ) a + S768x512.size a ≤ S768x1536.size a) (i : S768x512.Idx) :
    b16 B c ((Rect.unit (s := S768x1536) ![0, colOff j] S768x512.size h).idx i)
      = k0_pay1 (fun i => B c ((Rect.unit (s := S768x1536) ![0, colOff j] S768x512.size h).idx i)) i := byCol_col _ j i

/-- The narrowed left operand is the narrowing of the whole. -/
theorem a16_val (h : ∀ a, (![0, 0] : Fin 2 → ℕ) a + S1536x768.size a ≤ S1536x768.size a) (i : S1536x768.Idx) :
    a16 A c ((Rect.unit (s := S1536x768) ![0, 0] S1536x768.size h).idx i)
      = k0_pay18 (fun i => A c ((Rect.unit (s := S1536x768) ![0, 0] S1536x768.size h).idx i)) i := by
  have e : ∀ i : S1536x768.Idx, (Rect.unit (s := S1536x768) ![0, 0] S1536x768.size h).idx i = i := fun i => by
    funext a
    match a with
    | 0 => exact Fin.ext (by show 0 + 1 * (i 0).val = _; omega)
    | 1 => exact Fin.ext (by show 0 + 1 * (i 1).val = _; omega)
  have e' : (fun i => A c ((Rect.unit (s := S1536x768) ![0, 0] S1536x768.size h).idx i)) = A c := funext fun i => congrArg (A c) (e i)
  exact (congrArg (a16 A c) (e i)).trans (congrFun (congrArg k0_pay18 e'.symm) i)

/-- A slot sent at the first step is the product of its chunk and its third, -/
theorem sent_val (s : ℕ) {off : Fin 2 → ℕ} (hoff : off = chOff (chunkOf j (Fin.ofNat 8 (4 + s)) c))
    (h₁ : ∀ a, off a + S192x768.size a ≤ S1536x768.size a) (h₂ : ∀ a, (![0, colOff j] : Fin 2 → ℕ) a + S768x512.size a ≤ S768x1536.size a)
    (h : ∀ a, (![s, 0, 0] : Fin 3 → ℕ) a + S1x192x512.size a ≤ S4x192x512.size a) (i : S1x192x512.Idx) :
    sndV A B c 0 j ((Rect.unit (s := S4x192x512) ![s, 0, 0] S1x192x512.size h).idx i)
      = k0_pay2 (fun i => A c ((Rect.unit (s := S1536x768) off S192x768.size h₁).idx i))
          (fun i => b16 B c ((Rect.unit (s := S768x1536) ![0, colOff j] S768x512.size h₂).idx i)) i := by
  subst hoff
  exact bySlot_slot (n := 4) (sent A B c j) s h i

/-- and a slot kept is the product of the narrowed chunk and the third. -/
theorem part_val (s : ℕ) {off : Fin 2 → ℕ} (hoff : off = chOff (chunkOf j (Fin.ofNat 8 s) c))
    (h₁ : ∀ a, off a + S192x768.size a ≤ S1536x768.size a) (h₂ : ∀ a, (![0, colOff j] : Fin 2 → ℕ) a + S768x512.size a ≤ S768x1536.size a)
    (h : ∀ a, (![s, 0, 0] : Fin 3 → ℕ) a + S1x192x512.size a ≤ S4x192x512.size a) (i : S1x192x512.Idx) :
    prtV A B c j ((Rect.unit (s := S4x192x512) ![s, 0, 0] S1x192x512.size h).idx i)
      = k0_pay19 (fun i => a16 A c ((Rect.unit (s := S1536x768) off S192x768.size h₁).idx i))
          (fun i => b16 B c ((Rect.unit (s := S768x1536) ![0, colOff j] S768x512.size h₂).idx i)) i := by
  subst hoff
  exact bySlot_slot (n := 4) (part A B c j) s h i

/-- Slot `s` of the kept products, of the buffers sent from. -/
theorem prt_slot (s : ℕ) (h) : (fun i => prtV A B c j ((Rect.unit (s := S4x192x512) ![s, 0, 0] S1x192x512.size h).idx i)) = part A B c j s :=
  funext fun i => bySlot_slot (n := 4) (part A B c j) s h i
/-- Slot `s` sent at the first step, -/
theorem snd0_slot (s : ℕ) (h) : (fun i => sndV A B c 0 j ((Rect.unit (s := S4x192x512) ![s, 0, 0] S1x192x512.size h).idx i)) = sent A B c j s :=
  funext fun i => bySlot_slot (n := 4) (sent A B c j) s h i
/-- at the second, -/
theorem snd1_slot (s : ℕ) (h) : (fun i => sndV A B c 1 j ((Rect.unit (s := S2x192x512) ![s, 0, 0] S1x192x512.size h).idx i)) = sent1 A B c j s :=
  funext fun i => bySlot_slot (n := 2) (sent1 A B c j) s h i
/-- and the one sent at the third. -/
theorem snd2_slot (h) : (fun i => sndV A B c 2 j ((Rect.unit (s := S1x192x512) ![0, 0, 0] S1x192x512.size h).idx i)) = sent2 A B c j :=
  funext fun i => bySlot_slot (n := 1) (fun _ => sent2 A B c j) 0 h i

/-- A slot sent at the second step is the sum of a kept product and what the first step brought. -/
theorem s1_val (s s' : ℕ) (hs : s' = 2 + s) (h₁ h) (i : S1x192x512.Idx) :
    sndV A B c 1 j ((Rect.unit (s := S2x192x512) ![s, 0, 0] S1x192x512.size h).idx i)
      = k0_pay32 (fun i => prtV A B c j ((Rect.unit (s := S4x192x512) ![s', 0, 0] S1x192x512.size h₁).idx i))
          (fun i => sndV A B (flip (ax j 0) c) 0 j ((Rect.unit (s := S4x192x512) ![s', 0, 0] S1x192x512.size h₁).idx i)) i := by
  subst hs
  exact (congrFun (snd1_slot A B c j s h) i).trans
    (congrFun (congrArg₂ k0_pay32 (prt_slot A B c j (2 + s) h₁).symm (snd0_slot A B (flip (ax j 0) c) j (2 + s) h₁).symm) i)

/-- The slot sent at the third step is the sum of a kept product and what the first two steps brought. -/
theorem s2_val (h₁ h₂ h) (i : S1x192x512.Idx) :
    sndV A B c 2 j ((Rect.unit (s := S1x192x512) ![0, 0, 0] S1x192x512.size h).idx i)
      = k0_pay40 (fun i => prtV A B c j ((Rect.unit (s := S4x192x512) ![1, 0, 0] S1x192x512.size h₁).idx i))
          (fun i => sndV A B (flip (ax j 0) c) 0 j ((Rect.unit (s := S4x192x512) ![1, 0, 0] S1x192x512.size h₁).idx i))
          (fun i => sndV A B (flip (ax j 1) c) 1 j ((Rect.unit (s := S2x192x512) ![1, 0, 0] S1x192x512.size h₂).idx i)) i := by
  exact (congrFun (snd2_slot A B c j h) i).trans
    (congrFun (congr (congrArg₂ k0_pay40 (prt_slot A B c j 1 h₁).symm (snd0_slot A B (flip (ax j 0) c) j 1 h₁).symm)
      (snd1_slot A B (flip (ax j 1) c) j 1 h₂).symm) i)

/-- A third of the result is the sum of the kept product and what the three steps brought. -/
theorem out_val (h₁ h₂ h₃) (h : ∀ a, (![0, colOff j] : Fin 2 → ℕ) a + S192x512.size a ≤ S192x1536.size a) (i : S192x512.Idx) :
    outV A B c ((Rect.unit (s := S192x1536) ![0, colOff j] S192x512.size h).idx i)
      = k0_pay46 (fun i => prtV A B c j ((Rect.unit (s := S4x192x512) ![0, 0, 0] S1x192x512.size h₁).idx i))
          (fun i => sndV A B (flip (ax j 0) c) 0 j ((Rect.unit (s := S4x192x512) ![0, 0, 0] S1x192x512.size h₁).idx i))
          (fun i => sndV A B (flip (ax j 1) c) 1 j ((Rect.unit (s := S2x192x512) ![0, 0, 0] S1x192x512.size h₂).idx i))
          (fun i => sndV A B (flip (ax j 2) c) 2 j ((Rect.unit (s := S1x192x512) ![0, 0, 0] S1x192x512.size h₃).idx i)) i := by
  exact (byCol_col (n := 192) (out A B c) j i).trans
    (congrFun (congr (congr (congrArg₂ k0_pay46 (prt_slot A B c j 0 h₁).symm (snd0_slot A B (flip (ax j 0) c) j 0 h₁).symm)
      (snd1_slot A B (flip (ax j 1) c) j 0 h₂).symm) (snd2_slot A B (flip (ax j 2) c) j h₃).symm) i)

end Values

end Cert.KernelIdeal.Pf
-- ==== Proof.KernelIdeal.Body.lean ====
/-
The body of the kernel on one device, run operation by operation.
-/
module

public import proofs.«01_k».proof.Proof.KernelIdeal.Pieces

@[expose] public section

set_option maxRecDepth 65536

noncomputable section

namespace Cert.KernelIdeal.Pf

open Cert.KernelIdeal Cert.KernelIdeal.Gen Cert.Holds
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S1536x768 .f32) (B : Dev nD → Vec F S768x1536 .f32) (K : GSem nD τ sig → ℕ)

/-- The copies in the order they are received. -/
def recvs : List (Fin 3 × Fin 6) :=
  [(0, 0), (1, 0), (2, 0), (0, 1), (1, 1), (2, 1), (0, 3), (1, 3), (2, 3), (0, 2), (0, 4), (0, 5), (1, 2), (1, 4), (1, 5), (2, 2), (2, 4), (2, 5)]

/-- The scratch buffers of a device, each whole at any contents. -/
def scr (c : Dev nD) : sProp 𝕄 :=
  iprop(av c (Memref.whole cc0_scratch0) Finset.univ ∗ av c (Memref.whole cc0_scratch1) Finset.univ
    ∗ av c (Memref.whole cc0_scratch2) Finset.univ ∗ av c (Memref.whole cc0_scratch3) Finset.univ ∗ av c (Memref.whole cc0_scratch4) Finset.univ ∗
    av c (Memref.whole cc0_scratch5) Finset.univ ∗ av c (Memref.whole cc0_scratch6) Finset.univ ∗ av c (Memref.whole cc0_scratch7) Finset.univ ∗
    av c (Memref.whole cc0_scratch8) Finset.univ ∗ av c (Memref.whole cc0_scratch9) Finset.univ ∗ av c (Memref.whole cc0_scratch10) Finset.univ ∗
    av c (Memref.whole cc0_scratch11) Finset.univ ∗ av c (Memref.whole cc0_scratch12) Finset.univ ∗ av c (Memref.whole cc0_scratch13) Finset.univ ∗
    av c (Memref.whole cc0_scratch14) Finset.univ ∗ av c (Memref.whole cc0_scratch15) Finset.univ ∗ av c (Memref.whole cc0_scratch16) Finset.univ ∗
    av c (Memref.whole cc0_scratch17) Finset.univ ∗ av c (Memref.whole cc0_scratch18) Finset.univ ∗ av c (Memref.whole cc0_scratch19) Finset.univ ∗
    av c (Memref.whole cc0_scratch20) Finset.univ ∗ av c (Memref.whole cc0_scratch21) Finset.univ ∗ av c (Memref.whole cc0_scratch22) Finset.univ)

/-- What the protocol gives a device at the start. -/
def kits (c : Dev nD) : sProp 𝕄 :=
  iprop(sepAll (sigKit A B K c) [0, 1, 2] ∗ barKit A B K c ∗ sepAll (fireKit A B K c) copies ∗ sepAll (recvKit A B K c) recvs
    ∗ sepAll (sendKit A B K c) copies)

/-- What a device has when its body starts, -/
def pre (c : Dev nD) : sProp 𝕄 :=
  iprop(kits A B K c ∗ levAts L lv ∗ owing c (.inl 0 :: .inl 1 :: .inl 2 :: copies.map .inr) ∗ hv c aM Finset.univ (A c) ∗ hv c bM Finset.univ (B c) ∗ av c oM Finset.univ ∗ scr c)
/-- and when it ends: the result, and every semaphore spent. -/
def post (c : Dev nD) : sProp 𝕄 :=
  iprop(owing c [] ∗ hv c aM Finset.univ (A c) ∗ hv c bM Finset.univ (B c) ∗ hv c oM Finset.univ (outV A B c) ∗ scr c
    ∗ sepAll (doneS c) copies ∗ sepAll (doneR c) copies ∗ semVal (barCell c) 0)

/-- The whole matrix as a rectangle is all of it. -/
theorem all_rect (h) : (Rect.unit (s := S1536x768) ![0, 0] S1536x768.size h).set = Finset.univ := by
  ext x
  rw [Rect.mem_set_unit]
  refine ⟨fun _ => Finset.mem_univ _, fun _ a => ?_⟩
  match a with
  | 0 => exact ⟨Nat.zero_le _, by have := (x 0).isLt; show (x 0).val < 0 + 1536; exact (Nat.zero_add 1536).symm ▸ this⟩
  | 1 => exact ⟨Nat.zero_le _, by have := (x 1).isLt; show (x 1).val < 0 + 768; exact (Nat.zero_add 768).symm ▸ this⟩

/-- Either slot of the two sent together is among them. -/
theorem sub2 : sl 4 2 ⊆ (runR 4 2 2 (by decide)).set := by rw [runs22]; exact Finset.subset_union_left
/-- The other slot likewise. -/
theorem sub3 : sl 4 3 ⊆ (runR 4 2 2 (by decide)).set := by rw [runs22]; exact Finset.subset_union_right

/-- A buffer of one slot from its slot. -/
theorem slot_one (c : Dev nD) {e : EltTy} (m : Memref sig .tc .vmem (SN 1) e) : av (F := F) c m (sl 1 0) ⊢ av c m Finset.univ :=
  BIBase.Entails.of_eq (one_slot c m).symm

/-- A matrix from its thirds, whatever they hold. -/
theorem back_cols (c : Dev nD) {e : EltTy} {n : ℕ} (m : Memref sig .tc .vmem ⟨2, ![n, 1536]⟩ e) (X : (⟨2, ![n, 1536]⟩ : Shape).Idx → Elt F e) :
    iprop(hv c m (colR n 0).set X ∗ hv c m (colR n 1).set X ∗ hv c m (colR n 2).set X) ⊢ av (F := F) c m Finset.univ :=
  BIBase.Entails.trans (cols_holds c m X) (holds_any _ _ _ _)

set_option maxHeartbeats 8000000 in
/-- From what the protocol and the launch give it, the body runs to its end, leaving the result and every semaphore spent. -/
theorem body_run (c : Dev nD) (Q : PUnit → sProp 𝕄) :
    iprop(pre A B K c ∗ (post A B c -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) cc0_scratch23 cc0_scratch24) Q := by
  simp only [cc0_body_eq_skeleton, cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, Prog.bind_assoc, semSignalWord, semWaitWord, Prog.lift, Prog.bind_op, Prog.bind_ret, Prog.pure_eq_ret, wp_deviceId]
  unfold pre kits scr
  simp only [sepAll_cons, sepAll_nil]
  iintro ⟨⟨⟨⟨S0, S1, S2, -⟩, BK, FK, RK, SK⟩, #Hlev, HO, HA, HB, Ho, Ha, Hb, P0, P1, P2, s00, s01, s02, s10, s11, s12, s20, s21, s22, r00, r01, r02, r10, r11, r12, r20, r21, r22⟩, HQ⟩
  ihave G0 := (give c 0) $$ [r00 r12 r21]
  · iframe r00 r12 r21
  ihave G1 := (give c 1) $$ [r01 r10 r22]
  · iframe r01 r10 r22
  ihave G2 := (give c 2) $$ [r02 r11 r20]
  · iframe r02 r11 r20
  -- the barrier
  iapply (wp_sig A B K c 0 _ (dev1_eq c) (.inl 1 :: .inl 2 :: copies.map .inr)) $$ S0 G0 HO
  iintro HO
  iapply (wp_sig A B K c 1 _ (dev2_eq c) (.inl 2 :: copies.map .inr)) $$ S1 G1 HO
  iintro HO
  iapply (wp_sig A B K c 2 _ (dev3_eq c) (copies.map .inr)) $$ S2 G2 HO
  iintro HO
  iapply (wp_bar A B K c (copies.map .inr) (by decide)) $$ BK HO Hlev
  iintro ⟨HO, HG, Hbz⟩
  ihave HG := (got c) $$ HG
  ihave FS : Fires A B K c copies [] $$ [HO FK HG]
  · unfold Fires; rw [sepAll_nil]; iframe HO FK HG
  ihave RS : Recvs A B K c recvs [] $$ [RK]
  · unfold Recvs; rw [sepAll_nil]; iframe RK
  unfold copies recvs
  -- the buffers in pieces
  ihave ⟨b0, b1, b2⟩ := (show av (F := F) c (Memref.whole cc0_scratch1) Finset.univ ⊢ _ from three_cols c b16M) $$ Hb
  ihave ⟨s003, s002, s001, s000⟩ := (show av (F := F) c (Memref.whole cc0_scratch5) Finset.univ ⊢ _ from four_slots c (snd 0 0)) $$ s00
  ihave ⟨s101, s100⟩ := (show av (F := F) c (Memref.whole cc0_scratch8) Finset.univ ⊢ _ from two_slots c (snd 1 0)) $$ s10
  ihave ⟨p03, p02, p01, p00⟩ := (show av (F := F) c (Memref.whole cc0_scratch2) Finset.univ ⊢ _ from four_slots c (prt 0)) $$ P0
  ihave ⟨s013, s012, s011, s010⟩ := (show av (F := F) c (Memref.whole cc0_scratch6) Finset.univ ⊢ _ from four_slots c (snd 0 1)) $$ s01
  ihave ⟨s111, s110⟩ := (show av (F := F) c (Memref.whole cc0_scratch9) Finset.univ ⊢ _ from two_slots c (snd 1 1)) $$ s11
  ihave ⟨p13, p12, p11, p10⟩ := (show av (F := F) c (Memref.whole cc0_scratch3) Finset.univ ⊢ _ from four_slots c (prt 1)) $$ P1
  ihave ⟨s023, s022, s021, s020⟩ := (show av (F := F) c (Memref.whole cc0_scratch7) Finset.univ ⊢ _ from four_slots c (snd 0 2)) $$ s02
  ihave ⟨s121, s120⟩ := (show av (F := F) c (Memref.whole cc0_scratch10) Finset.univ ⊢ _ from two_slots c (snd 1 2)) $$ s12
  ihave ⟨p23, p22, p21, p20⟩ := (show av (F := F) c (Memref.whole cc0_scratch4) Finset.univ ⊢ _ from four_slots c (prt 2)) $$ P2
  iapply (wp_compute1 𝒱₀ (c : Thread nD τ) none Set.univ (md := (Memref.whole cc0_scratch1)) (m1 := (Memref.whole cc0_stg1_0)) (b16 B c)
    (Finset.subset_univ _) (third_val B c 0 _)) $$ [HB] [b0]
  · iexact HB
  · iexact b0
  iintro ⟨HB, b0⟩
  iapply (wp_compute2 𝒱₀ (c : Thread nD τ) none Set.univ (md := (Memref.whole cc0_scratch5)) (m1 := (Memref.whole cc0_stg0_0)) (m2 := (Memref.whole cc0_scratch1)) (sndV A B c 0 0)
    (Finset.subset_univ _) subset_rfl (sent_val A B c 0 2 ((off1_eq c).trans (ch c 0 6)) _ _ _)) $$ [HA] [b0] [s002]
  · iexact HA
  · iexact b0
  · iexact s002
  iintro ⟨HA, b0, s002⟩
  iapply (wp_compute2 𝒱₀ (c : Thread nD τ) none Set.univ (md := (Memref.whole cc0_scratch5)) (m1 := (Memref.whole cc0_stg0_0)) (m2 := (Memref.whole cc0_scratch1)) (sndV A B c 0 0)
    (Finset.subset_univ _) subset_rfl (sent_val A B c 0 3 ((off2_eq c).trans (ch c 0 7)) _ _ _)) $$ [HA] [b0] [s003]
  · iexact HA
  · iexact b0
  · iexact s003
  iintro ⟨HA, b0, s003⟩
  ihave s00h := (two_join c (snd 0 0) (sndV A B c 0 0)) $$ [s002] [s003]
  · iexact s002
  · iexact s003
  iapply (fires_pop A B K c 0 0 _ (dev4_eq c) _ _ (semS 0 0 _ _) (semR 0 0 _ _)) $$ FS [s00h]
  · unfold sendPay; iexact s00h
  iintro FS
  iapply (wp_compute1 𝒱₀ (c : Thread nD τ) none Set.univ (md := (Memref.whole cc0_scratch1)) (m1 := (Memref.whole cc0_stg1_0)) (b16 B c)
    (Finset.subset_univ _) (third_val B c 1 _)) $$ [HB] [b1]
  · iexact HB
  · iexact b1
  iintro ⟨HB, b1⟩
  iapply (wp_compute2 𝒱₀ (c : Thread nD τ) none Set.univ (md := (Memref.whole cc0_scratch6)) (m1 := (Memref.whole cc0_stg0_0)) (m2 := (Memref.whole cc0_scratch1)) (sndV A B c 0 1)
    (Finset.subset_univ _) subset_rfl (sent_val A B c 1 2 ((off3_eq c).trans (ch c 1 6)) _ _ _)) $$ [HA] [b1] [s012]
  · iexact HA
  · iexact b1
  · iexact s012
  iintro ⟨HA, b1, s012⟩
  iapply (wp_compute2 𝒱₀ (c : Thread nD τ) none Set.univ (md := (Memref.whole cc0_scratch6)) (m1 := (Memref.whole cc0_stg0_0)) (m2 := (Memref.whole cc0_scratch1)) (sndV A B c 0 1)
    (Finset.subset_univ _) subset_rfl (sent_val A B c 1 3 ((off2_eq c).trans (ch c 1 7)) _ _ _)) $$ [HA] [b1] [s013]
  · iexact HA
  · iexact b1
  · iexact s013
  iintro ⟨HA, b1, s013⟩
  ihave s01h := (two_join c (snd 0 1) (sndV A B c 0 1)) $$ [s012] [s013]
  · iexact s012
  · iexact s013
  iapply (fires_pop A B K c 1 0 _ (dev5_eq c) _ _ (semS 1 0 _ _) (semR 1 0 _ _)) $$ FS [s01h]
  · unfold sendPay; iexact s01h
  iintro FS
  iapply (wp_compute1 𝒱₀ (c : Thread nD τ) none Set.univ (md := (Memref.whole cc0_scratch1)) (m1 := (Memref.whole cc0_stg1_0)) (b16 B c)
    (Finset.subset_univ _) (third_val B c 2 _)) $$ [HB] [b2]
  · iexact HB
  · iexact b2
  iintro ⟨HB, b2⟩
  iapply (wp_compute2 𝒱₀ (c : Thread nD τ) none Set.univ (md := (Memref.whole cc0_scratch7)) (m1 := (Memref.whole cc0_stg0_0)) (m2 := (Memref.whole cc0_scratch1)) (sndV A B c 0 2)
    (Finset.subset_univ _) subset_rfl (sent_val A B c 2 2 ((off4_eq c).trans (ch c 2 6)) _ _ _)) $$ [HA] [b2] [s022]
  · iexact HA
  · iexact b2
  · iexact s022
  iintro ⟨HA, b2, s022⟩
  iapply (wp_compute2 𝒱₀ (c : Thread nD τ) none Set.univ (md := (Memref.whole cc0_scratch7)) (m1 := (Memref.whole cc0_stg0_0)) (m2 := (Memref.whole cc0_scratch1)) (sndV A B c 0 2)
    (Finset.subset_univ _) subset_rfl (sent_val A B c 2 3 ((off2_eq c).trans (ch c 2 7)) _ _ _)) $$ [HA] [b2] [s023]
  · iexact HA
  · iexact b2
  · iexact s023
  iintro ⟨HA, b2, s023⟩
  ihave s02h := (two_join c (snd 0 2) (sndV A B c 0 2)) $$ [s022] [s023]
  · iexact s022
  · iexact s023
  iapply (fires_pop A B K c 2 0 _ (dev6_eq c) _ _ (semS 2 0 _ _) (semR 2 0 _ _)) $$ FS [s02h]
  · unfold sendPay; iexact s02h
  iintro FS
  iapply (wp_compute2 𝒱₀ (c : Thread nD τ) none Set.univ (md := (Memref.whole cc0_scratch5)) (m1 := (Memref.whole cc0_stg0_0)) (m2 := (Memref.whole cc0_scratch1)) (sndV A B c 0 0)
    (Finset.subset_univ _) subset_rfl (sent_val A B c 0 1 ((off4_eq c).trans (ch c 0 5)) _ _ _)) $$ [HA] [b0] [s001]
  · iexact HA
  · iexact b0
  · iexact s001
  iintro ⟨HA, b0, s001⟩
  iapply (fires_pop A B K c 0 1 _ (dev7_eq c) _ _ (semS 0 1 _ _) (semR 0 1 _ _)) $$ FS [s001]
  · unfold sendPay; iexact s001
  iintro FS
  iapply (wp_compute2 𝒱₀ (c : Thread nD τ) none Set.univ (md := (Memref.whole cc0_scratch5)) (m1 := (Memref.whole cc0_stg0_0)) (m2 := (Memref.whole cc0_scratch1)) (sndV A B c 0 0)
    (Finset.subset_univ _) subset_rfl (sent_val A B c 0 0 ((off5_eq c).trans (ch c 0 4)) _ _ _)) $$ [HA] [b0] [s000]
  · iexact HA
  · iexact b0
  · iexact s000
  iintro ⟨HA, b0, s000⟩
  iapply (fires_pop A B K c 0 2 _ (dev8_eq c) _ _ (semS 0 2 _ _) (semR 0 2 _ _)) $$ FS [s000]
  · unfold sendPay; iexact s000
  iintro FS
  iapply (wp_compute2 𝒱₀ (c : Thread nD τ) none Set.univ (md := (Memref.whole cc0_scratch6)) (m1 := (Memref.whole cc0_stg0_0)) (m2 := (Memref.whole cc0_scratch1)) (sndV A B c 0 1)
    (Finset.subset_univ _) subset_rfl (sent_val A B c 1 1 ((off1_eq c).trans (ch c 1 5)) _ _ _)) $$ [HA] [b1] [s011]
  · iexact HA
  · iexact b1
  · iexact s011
  iintro ⟨HA, b1, s011⟩
  iapply (fires_pop A B K c 1 1 _ (dev9_eq c) _ _ (semS 1 1 _ _) (semR 1 1 _ _)) $$ FS [s011]
  · unfold sendPay; iexact s011
  iintro FS
  iapply (wp_compute2 𝒱₀ (c : Thread nD τ) none Set.univ (md := (Memref.whole cc0_scratch6)) (m1 := (Memref.whole cc0_stg0_0)) (m2 := (Memref.whole cc0_scratch1)) (sndV A B c 0 1)
    (Finset.subset_univ _) subset_rfl (sent_val A B c 1 0 ((off6_eq c).trans (ch c 1 4)) _ _ _)) $$ [HA] [b1] [s010]
  · iexact HA
  · iexact b1
  · iexact s010
  iintro ⟨HA, b1, s010⟩
  iapply (fires_pop A B K c 1 2 _ (dev10_eq c) _ _ (semS 1 2 _ _) (semR 1 2 _ _)) $$ FS [s010]
  · unfold sendPay; iexact s010
  iintro FS
  iapply (wp_compute2 𝒱₀ (c : Thread nD τ) none Set.univ (md := (Memref.whole cc0_scratch7)) (m1 := (Memref.whole cc0_stg0_0)) (m2 := (Memref.whole cc0_scratch1)) (sndV A B c 0 2)
    (Finset.subset_univ _) subset_rfl (sent_val A B c 2 1 ((off3_eq c).trans (ch c 2 5)) _ _ _)) $$ [HA] [b2] [s021]
  · iexact HA
  · iexact b2
  · iexact s021
  iintro ⟨HA, b2, s021⟩
  iapply (fires_pop A B K c 2 1 _ (dev11_eq c) _ _ (semS 2 1 _ _) (semR 2 1 _ _)) $$ FS [s021]
  · unfold sendPay; iexact s021
  iintro FS
  iapply (wp_compute2 𝒱₀ (c : Thread nD τ) none Set.univ (md := (Memref.whole cc0_scratch7)) (m1 := (Memref.whole cc0_stg0_0)) (m2 := (Memref.whole cc0_scratch1)) (sndV A B c 0 2)
    (Finset.subset_univ _) subset_rfl (sent_val A B c 2 0 ((off7_eq c).trans (ch c 2 4)) _ _ _)) $$ [HA] [b2] [s020]
  · iexact HA
  · iexact b2
  · iexact s020
  iintro ⟨HA, b2, s020⟩
  iapply (fires_pop A B K c 2 2 _ (dev12_eq c) _ _ (semS 2 2 _ _) (semR 2 2 _ _)) $$ FS [s020]
  · unfold sendPay; iexact s020
  iintro FS
  iapply (wp_compute1 𝒱₀ (c : Thread nD τ) none Set.univ (md := (Memref.whole cc0_scratch0)) (m1 := (Memref.whole cc0_stg0_0)) (a16 A c)
    (Finset.subset_univ _) (a16_val A c _)) $$ [HA] [Ha]
  · iexact HA
  · rw [all_rect]; iexact Ha
  iintro ⟨HA, Ha⟩
  rw [all_rect]
  iapply (wp_compute2 𝒱₀ (c : Thread nD τ) none Set.univ (md := (Memref.whole cc0_scratch2)) (m1 := (Memref.whole cc0_scratch0)) (m2 := (Memref.whole cc0_scratch1)) (prtV A B c 0)
    (Finset.subset_univ _) subset_rfl (part_val A B c 0 3 ((off3_eq c).trans (ch c 0 3)) _ _ _)) $$ [Ha] [b0] [p03]
  · iexact Ha
  · iexact b0
  · iexact p03
  iintro ⟨Ha, b0, p03⟩
  iapply (wp_compute2 𝒱₀ (c : Thread nD τ) none Set.univ (md := (Memref.whole cc0_scratch3)) (m1 := (Memref.whole cc0_scratch0)) (m2 := (Memref.whole cc0_scratch1)) (prtV A B c 1)
    (Finset.subset_univ _) subset_rfl (part_val A B c 1 3 ((off4_eq c).trans (ch c 1 3)) _ _ _)) $$ [Ha] [b1] [p13]
  · iexact Ha
  · iexact b1
  · iexact p13
  iintro ⟨Ha, b1, p13⟩
  iapply (wp_compute2 𝒱₀ (c : Thread nD τ) none Set.univ (md := (Memref.whole cc0_scratch4)) (m1 := (Memref.whole cc0_scratch0)) (m2 := (Memref.whole cc0_scratch1)) (prtV A B c 2)
    (Finset.subset_univ _) subset_rfl (part_val A B c 2 3 ((off1_eq c).trans (ch c 2 3)) _ _ _)) $$ [Ha] [b2] [p23]
  · iexact Ha
  · iexact b2
  · iexact p23
  iintro ⟨Ha, b2, p23⟩
  iapply (wp_compute2 𝒱₀ (c : Thread nD τ) none Set.univ (md := (Memref.whole cc0_scratch2)) (m1 := (Memref.whole cc0_scratch0)) (m2 := (Memref.whole cc0_scratch1)) (prtV A B c 0)
    (Finset.subset_univ _) subset_rfl (part_val A B c 0 2 ((off6_eq c).trans (ch c 0 2)) _ _ _)) $$ [Ha] [b0] [p02]
  · iexact Ha
  · iexact b0
  · iexact p02
  iintro ⟨Ha, b0, p02⟩
  iapply (wp_compute2 𝒱₀ (c : Thread nD τ) none Set.univ (md := (Memref.whole cc0_scratch3)) (m1 := (Memref.whole cc0_scratch0)) (m2 := (Memref.whole cc0_scratch1)) (prtV A B c 1)
    (Finset.subset_univ _) subset_rfl (part_val A B c 1 2 ((off7_eq c).trans (ch c 1 2)) _ _ _)) $$ [Ha] [b1] [p12]
  · iexact Ha
  · iexact b1
  · iexact p12
  iintro ⟨Ha, b1, p12⟩
  iapply (wp_compute2 𝒱₀ (c : Thread nD τ) none Set.univ (md := (Memref.whole cc0_scratch4)) (m1 := (Memref.whole cc0_scratch0)) (m2 := (Memref.whole cc0_scratch1)) (prtV A B c 2)
    (Finset.subset_univ _) subset_rfl (part_val A B c 2 2 ((off5_eq c).trans (ch c 2 2)) _ _ _)) $$ [Ha] [b2] [p22]
  · iexact Ha
  · iexact b2
  · iexact p22
  iintro ⟨Ha, b2, p22⟩
  iapply (wp_compute2 𝒱₀ (c : Thread nD τ) none Set.univ (md := (Memref.whole cc0_scratch2)) (m1 := (Memref.whole cc0_scratch0)) (m2 := (Memref.whole cc0_scratch1)) (prtV A B c 0)
    (Finset.subset_univ _) subset_rfl (part_val A B c 0 1 ((off7_eq c).trans (ch c 0 1)) _ _ _)) $$ [Ha] [b0] [p01]
  · iexact Ha
  · iexact b0
  · iexact p01
  iintro ⟨Ha, b0, p01⟩
  iapply (wp_compute2 𝒱₀ (c : Thread nD τ) none Set.univ (md := (Memref.whole cc0_scratch3)) (m1 := (Memref.whole cc0_scratch0)) (m2 := (Memref.whole cc0_scratch1)) (prtV A B c 1)
    (Finset.subset_univ _) subset_rfl (part_val A B c 1 1 ((off5_eq c).trans (ch c 1 1)) _ _ _)) $$ [Ha] [b1] [p11]
  · iexact Ha
  · iexact b1
  · iexact p11
  iintro ⟨Ha, b1, p11⟩
  iapply (wp_compute2 𝒱₀ (c : Thread nD τ) none Set.univ (md := (Memref.whole cc0_scratch4)) (m1 := (Memref.whole cc0_scratch0)) (m2 := (Memref.whole cc0_scratch1)) (prtV A B c 2)
    (Finset.subset_univ _) subset_rfl (part_val A B c 2 1 ((off6_eq c).trans (ch c 2 1)) _ _ _)) $$ [Ha] [b2] [p21]
  · iexact Ha
  · iexact b2
  · iexact p21
  iintro ⟨Ha, b2, p21⟩
  iapply (wp_compute2 𝒱₀ (c : Thread nD τ) none Set.univ (md := (Memref.whole cc0_scratch2)) (m1 := (Memref.whole cc0_scratch0)) (m2 := (Memref.whole cc0_scratch1)) (prtV A B c 0)
    (Finset.subset_univ _) subset_rfl (part_val A B c 0 0 ((off8_eq c).trans (congrArg chOff (chunk_own 0 c).symm)) _ _ _)) $$ [Ha] [b0] [p00]
  · iexact Ha
  · iexact b0
  · iexact p00
  iintro ⟨Ha, b0, p00⟩
  iapply (wp_compute2 𝒱₀ (c : Thread nD τ) none Set.univ (md := (Memref.whole cc0_scratch3)) (m1 := (Memref.whole cc0_scratch0)) (m2 := (Memref.whole cc0_scratch1)) (prtV A B c 1)
    (Finset.subset_univ _) subset_rfl (part_val A B c 1 0 ((off8_eq c).trans (congrArg chOff (chunk_own 1 c).symm)) _ _ _)) $$ [Ha] [b1] [p10]
  · iexact Ha
  · iexact b1
  · iexact p10
  iintro ⟨Ha, b1, p10⟩
  iapply (wp_compute2 𝒱₀ (c : Thread nD τ) none Set.univ (md := (Memref.whole cc0_scratch4)) (m1 := (Memref.whole cc0_scratch0)) (m2 := (Memref.whole cc0_scratch1)) (prtV A B c 2)
    (Finset.subset_univ _) subset_rfl (part_val A B c 2 0 ((off8_eq c).trans (congrArg chOff (chunk_own 2 c).symm)) _ _ _)) $$ [Ha] [b2] [p20]
  · iexact Ha
  · iexact b2
  · iexact p20
  iintro ⟨Ha, b2, p20⟩
  iapply (recvs_pop A B K c 0 0 _ (semR 0 0 _ _) [(0, 3), (0, 4), (1, 3), (1, 4), (2, 3), (2, 4), (0, 5), (1, 5), (2, 5)] _ _ _ (by decide) rfl) $$ FS RS Hlev
  iintro ⟨FS, RS, R00⟩
  unfold recvPay
  iapply (wp_compute2 𝒱₀ (c : Thread nD τ) none Set.univ (md := (Memref.whole cc0_scratch8)) (m1 := (Memref.whole cc0_scratch2)) (m2 := (Memref.whole cc0_scratch14)) (sndV A B c 1 0)
    subset_rfl sub3 (s1_val A B c 0 1 3 rfl _ _)) $$ [p03] [R00] [s101]
  · iexact p03
  · iexact R00
  · iexact s101
  iintro ⟨p03, R00, s101⟩
  iapply (fires_pop A B K c 0 3 _ (dev13_eq c) _ _ (semS 0 3 _ _) (semR 0 3 _ _)) $$ FS [s101]
  · unfold sendPay; iexact s101
  iintro FS
  iapply (wp_compute2 𝒱₀ (c : Thread nD τ) none Set.univ (md := (Memref.whole cc0_scratch8)) (m1 := (Memref.whole cc0_scratch2)) (m2 := (Memref.whole cc0_scratch14)) (sndV A B c 1 0)
    subset_rfl sub2 (s1_val A B c 0 0 2 rfl _ _)) $$ [p02] [R00] [s100]
  · iexact p02
  · iexact R00
  · iexact s100
  iintro ⟨p02, R00, s100⟩
  iapply (fires_pop A B K c 0 4 _ (dev14_eq c) _ _ (semS 0 4 _ _) (semR 0 4 _ _)) $$ FS [s100]
  · unfold sendPay; iexact s100
  iintro FS
  iapply (recvs_pop A B K c 1 0 _ (semR 1 0 _ _) [(1, 3), (1, 4), (2, 3), (2, 4), (0, 5), (1, 5), (2, 5)] _ _ _ (by decide) rfl) $$ FS RS Hlev
  iintro ⟨FS, RS, R10⟩
  unfold recvPay
  iapply (wp_compute2 𝒱₀ (c : Thread nD τ) none Set.univ (md := (Memref.whole cc0_scratch9)) (m1 := (Memref.whole cc0_scratch3)) (m2 := (Memref.whole cc0_scratch15)) (sndV A B c 1 1)
    subset_rfl sub3 (s1_val A B c 1 1 3 rfl _ _)) $$ [p13] [R10] [s111]
  · iexact p13
  · iexact R10
  · iexact s111
  iintro ⟨p13, R10, s111⟩
  iapply (fires_pop A B K c 1 3 _ (dev15_eq c) _ _ (semS 1 3 _ _) (semR 1 3 _ _)) $$ FS [s111]
  · unfold sendPay; iexact s111
  iintro FS
  iapply (wp_compute2 𝒱₀ (c : Thread nD τ) none Set.univ (md := (Memref.whole cc0_scratch9)) (m1 := (Memref.whole cc0_scratch3)) (m2 := (Memref.whole cc0_scratch15)) (sndV A B c 1 1)
    subset_rfl sub2 (s1_val A B c 1 0 2 rfl _ _)) $$ [p12] [R10] [s110]
  · iexact p12
  · iexact R10
  · iexact s110
  iintro ⟨p12, R10, s110⟩
  iapply (fires_pop A B K c 1 4 _ (dev16_eq c) _ _ (semS 1 4 _ _) (semR 1 4 _ _)) $$ FS [s110]
  · unfold sendPay; iexact s110
  iintro FS
  iapply (recvs_pop A B K c 2 0 _ (semR 2 0 _ _) [(2, 3), (2, 4), (0, 5), (1, 5), (2, 5)] _ _ _ (by decide) rfl) $$ FS RS Hlev
  iintro ⟨FS, RS, R20⟩
  unfold recvPay
  iapply (wp_compute2 𝒱₀ (c : Thread nD τ) none Set.univ (md := (Memref.whole cc0_scratch10)) (m1 := (Memref.whole cc0_scratch4)) (m2 := (Memref.whole cc0_scratch16)) (sndV A B c 1 2)
    subset_rfl sub3 (s1_val A B c 2 1 3 rfl _ _)) $$ [p23] [R20] [s121]
  · iexact p23
  · iexact R20
  · iexact s121
  iintro ⟨p23, R20, s121⟩
  iapply (fires_pop A B K c 2 3 _ (dev17_eq c) _ _ (semS 2 3 _ _) (semR 2 3 _ _)) $$ FS [s121]
  · unfold sendPay; iexact s121
  iintro FS
  iapply (wp_compute2 𝒱₀ (c : Thread nD τ) none Set.univ (md := (Memref.whole cc0_scratch10)) (m1 := (Memref.whole cc0_scratch4)) (m2 := (Memref.whole cc0_scratch16)) (sndV A B c 1 2)
    subset_rfl sub2 (s1_val A B c 2 0 2 rfl _ _)) $$ [p22] [R20] [s120]
  · iexact p22
  · iexact R20
  · iexact s120
  iintro ⟨p22, R20, s120⟩
  iapply (fires_pop A B K c 2 4 _ (dev18_eq c) _ _ (semS 2 4 _ _) (semR 2 4 _ _)) $$ FS [s120]
  · unfold sendPay; iexact s120
  iintro FS
  iapply (recvs_pop A B K c 0 1 _ (semR 0 1 _ _) [(0, 5), (1, 5), (2, 5)] _ _ _ (by decide) rfl) $$ FS RS Hlev
  iintro ⟨FS, RS, R01⟩
  unfold recvPay
  iapply (recvs_pop A B K c 1 1 _ (semR 1 1 _ _) [(0, 5), (1, 5), (2, 5)] _ _ _ (by decide) rfl) $$ FS RS Hlev
  iintro ⟨FS, RS, R11⟩
  unfold recvPay
  iapply (recvs_pop A B K c 2 1 _ (semR 2 1 _ _) [(0, 5), (1, 5), (2, 5)] _ _ _ (by decide) rfl) $$ FS RS Hlev
  iintro ⟨FS, RS, R21⟩
  unfold recvPay
  iapply (recvs_pop A B K c 0 3 _ (semR 0 3 _ _) [(0, 5), (1, 5), (2, 5)] _ _ _ (by decide) rfl) $$ FS RS Hlev
  iintro ⟨FS, RS, R03⟩
  unfold recvPay
  ihave s20 := (show av (F := F) c (Memref.whole cc0_scratch11) Finset.univ ⊢ _ from BIBase.Entails.of_eq (one_slot c (snd 2 0))) $$ s20
  iapply (wp_compute3 𝒱₀ (c : Thread nD τ) none Set.univ (md := (Memref.whole cc0_scratch11)) (m1 := (Memref.whole cc0_scratch2)) (m2 := (Memref.whole cc0_scratch14)) (m3 := (Memref.whole cc0_scratch17)) (sndV A B c 2 0)
    subset_rfl subset_rfl subset_rfl (s2_val A B c 0 _ _ _)) $$ [p01] [R01] [R03] [s20]
  · iexact p01
  · iexact R01
  · iexact R03
  · iexact s20
  iintro ⟨p01, R01, R03, s20⟩
  iapply (fires_pop A B K c 0 5 _ (dev19_eq c) _ _ (semS 0 5 _ _) (semR 0 5 _ _)) $$ FS [s20]
  · unfold sendPay; iexact s20
  iintro FS
  iapply (recvs_pop A B K c 1 3 _ (semR 1 3 _ _) [(1, 5), (2, 5)] _ _ _ (by decide) rfl) $$ FS RS Hlev
  iintro ⟨FS, RS, R13⟩
  unfold recvPay
  ihave s21 := (show av (F := F) c (Memref.whole cc0_scratch12) Finset.univ ⊢ _ from BIBase.Entails.of_eq (one_slot c (snd 2 1))) $$ s21
  iapply (wp_compute3 𝒱₀ (c : Thread nD τ) none Set.univ (md := (Memref.whole cc0_scratch12)) (m1 := (Memref.whole cc0_scratch3)) (m2 := (Memref.whole cc0_scratch15)) (m3 := (Memref.whole cc0_scratch18)) (sndV A B c 2 1)
    subset_rfl subset_rfl subset_rfl (s2_val A B c 1 _ _ _)) $$ [p11] [R11] [R13] [s21]
  · iexact p11
  · iexact R11
  · iexact R13
  · iexact s21
  iintro ⟨p11, R11, R13, s21⟩
  iapply (fires_pop A B K c 1 5 _ (dev20_eq c) _ _ (semS 1 5 _ _) (semR 1 5 _ _)) $$ FS [s21]
  · unfold sendPay; iexact s21
  iintro FS
  iapply (recvs_pop A B K c 2 3 _ (semR 2 3 _ _) [(2, 5)] _ _ _ (by decide) rfl) $$ FS RS Hlev
  iintro ⟨FS, RS, R23⟩
  unfold recvPay
  ihave s22 := (show av (F := F) c (Memref.whole cc0_scratch13) Finset.univ ⊢ _ from BIBase.Entails.of_eq (one_slot c (snd 2 2))) $$ s22
  iapply (wp_compute3 𝒱₀ (c : Thread nD τ) none Set.univ (md := (Memref.whole cc0_scratch13)) (m1 := (Memref.whole cc0_scratch4)) (m2 := (Memref.whole cc0_scratch16)) (m3 := (Memref.whole cc0_scratch19)) (sndV A B c 2 2)
    subset_rfl subset_rfl subset_rfl (s2_val A B c 2 _ _ _)) $$ [p21] [R21] [R23] [s22]
  · iexact p21
  · iexact R21
  · iexact R23
  · iexact s22
  iintro ⟨p21, R21, R23, s22⟩
  iapply (fires_pop A B K c 2 5 _ (dev21_eq c) _ _ (semS 2 5 _ _) (semR 2 5 _ _)) $$ FS [s22]
  · unfold sendPay; iexact s22
  iintro FS
  iapply (recvs_pop A B K c 0 2 _ (semR 0 2 _ _) [] _ _ _ (by decide) rfl) $$ FS RS Hlev
  iintro ⟨FS, RS, R02⟩
  unfold recvPay
  iapply (recvs_pop A B K c 0 4 _ (semR 0 4 _ _) [] _ _ _ (by decide) rfl) $$ FS RS Hlev
  iintro ⟨FS, RS, R04⟩
  unfold recvPay
  iapply (recvs_pop A B K c 0 5 _ (semR 0 5 _ _) [] _ _ _ (by decide) rfl) $$ FS RS Hlev
  iintro ⟨FS, RS, R05⟩
  unfold recvPay
  ihave ⟨o0, o1, o2⟩ := (show av (F := F) c (Memref.whole cc0_stg2_0) Finset.univ ⊢ _ from three_cols c oM) $$ Ho
  iapply (wp_compute4 𝒱₀ (c : Thread nD τ) none Set.univ (md := (Memref.whole cc0_stg2_0)) (m1 := (Memref.whole cc0_scratch2)) (m2 := (Memref.whole cc0_scratch14)) (m3 := (Memref.whole cc0_scratch17)) (m4 := (Memref.whole cc0_scratch20)) (outV A B c)
    subset_rfl subset_rfl subset_rfl subset_rfl (out_val A B c 0 _ _ _ _)) $$ [p00] [R02] [R04] [R05] [o0]
  · iexact p00
  · iexact R02
  · iexact R04
  · iexact R05
  · iexact o0
  iintro ⟨p00, R02, R04, R05, o0⟩
  iapply (recvs_pop A B K c 1 2 _ (semR 1 2 _ _) [] _ _ _ (by decide) rfl) $$ FS RS Hlev
  iintro ⟨FS, RS, R12⟩
  unfold recvPay
  iapply (recvs_pop A B K c 1 4 _ (semR 1 4 _ _) [] _ _ _ (by decide) rfl) $$ FS RS Hlev
  iintro ⟨FS, RS, R14⟩
  unfold recvPay
  iapply (recvs_pop A B K c 1 5 _ (semR 1 5 _ _) [] _ _ _ (by decide) rfl) $$ FS RS Hlev
  iintro ⟨FS, RS, R15⟩
  unfold recvPay
  iapply (wp_compute4 𝒱₀ (c : Thread nD τ) none Set.univ (md := (Memref.whole cc0_stg2_0)) (m1 := (Memref.whole cc0_scratch3)) (m2 := (Memref.whole cc0_scratch15)) (m3 := (Memref.whole cc0_scratch18)) (m4 := (Memref.whole cc0_scratch21)) (outV A B c)
    subset_rfl subset_rfl subset_rfl subset_rfl (out_val A B c 1 _ _ _ _)) $$ [p10] [R12] [R14] [R15] [o1]
  · iexact p10
  · iexact R12
  · iexact R14
  · iexact R15
  · iexact o1
  iintro ⟨p10, R12, R14, R15, o1⟩
  iapply (recvs_pop A B K c 2 2 _ (semR 2 2 _ _) [] _ _ _ (by decide) rfl) $$ FS RS Hlev
  iintro ⟨FS, RS, R22⟩
  unfold recvPay
  iapply (recvs_pop A B K c 2 4 _ (semR 2 4 _ _) [] _ _ _ (by decide) rfl) $$ FS RS Hlev
  iintro ⟨FS, RS, R24⟩
  unfold recvPay
  iapply (recvs_pop A B K c 2 5 _ (semR 2 5 _ _) [] _ _ _ (by decide) rfl) $$ FS RS Hlev
  iintro ⟨FS, RS, R25⟩
  unfold recvPay
  iapply (wp_compute4 𝒱₀ (c : Thread nD τ) none Set.univ (md := (Memref.whole cc0_stg2_0)) (m1 := (Memref.whole cc0_scratch4)) (m2 := (Memref.whole cc0_scratch16)) (m3 := (Memref.whole cc0_scratch19)) (m4 := (Memref.whole cc0_scratch22)) (outV A B c)
    subset_rfl subset_rfl subset_rfl subset_rfl (out_val A B c 2 _ _ _ _)) $$ [p20] [R22] [R24] [R25] [o2]
  · iexact p20
  · iexact R22
  · iexact R24
  · iexact R25
  · iexact o2
  iintro ⟨p20, R22, R24, R25, o2⟩
  -- the sends
  unfold Fires
  icases FS with ⟨HO, -, -, SC⟩
  ihave SC := (sepAll_perm (sentCred c) (l' := copies) (by decide)) $$ SC
  ihave SS : Sends A B K c copies [] $$ [SK SC]
  · unfold Sends; rw [sepAll_nil]; iframe SK SC
  unfold copies
  simp only [List.map_nil]
  iapply (sends_pop A B K c 0 0 _ (semS 0 0 _ _) _ _ (cr_snd 0 0)) $$ HO SS Hlev
  iintro ⟨HO, SS, Z00⟩
  iapply (sends_pop A B K c 1 0 _ (semS 1 0 _ _) _ _ (cr_snd 1 0)) $$ HO SS Hlev
  iintro ⟨HO, SS, Z10⟩
  iapply (sends_pop A B K c 2 0 _ (semS 2 0 _ _) _ _ (cr_snd 2 0)) $$ HO SS Hlev
  iintro ⟨HO, SS, Z20⟩
  iapply (sends_pop A B K c 0 1 _ (semS 0 1 _ _) _ _ (cr_snd 0 1)) $$ HO SS Hlev
  iintro ⟨HO, SS, Z01⟩
  iapply (sends_pop A B K c 0 2 _ (semS 0 2 _ _) _ _ (cr_snd 0 2)) $$ HO SS Hlev
  iintro ⟨HO, SS, Z02⟩
  iapply (sends_pop A B K c 1 1 _ (semS 1 1 _ _) _ _ (cr_snd 1 1)) $$ HO SS Hlev
  iintro ⟨HO, SS, Z11⟩
  iapply (sends_pop A B K c 1 2 _ (semS 1 2 _ _) _ _ (cr_snd 1 2)) $$ HO SS Hlev
  iintro ⟨HO, SS, Z12⟩
  iapply (sends_pop A B K c 2 1 _ (semS 2 1 _ _) _ _ (cr_snd 2 1)) $$ HO SS Hlev
  iintro ⟨HO, SS, Z21⟩
  iapply (sends_pop A B K c 2 2 _ (semS 2 2 _ _) _ _ (cr_snd 2 2)) $$ HO SS Hlev
  iintro ⟨HO, SS, Z22⟩
  iapply (sends_pop A B K c 0 3 _ (semS 0 3 _ _) _ _ (cr_snd 0 3)) $$ HO SS Hlev
  iintro ⟨HO, SS, Z03⟩
  iapply (sends_pop A B K c 0 4 _ (semS 0 4 _ _) _ _ (cr_snd 0 4)) $$ HO SS Hlev
  iintro ⟨HO, SS, Z04⟩
  iapply (sends_pop A B K c 1 3 _ (semS 1 3 _ _) _ _ (cr_snd 1 3)) $$ HO SS Hlev
  iintro ⟨HO, SS, Z13⟩
  iapply (sends_pop A B K c 1 4 _ (semS 1 4 _ _) _ _ (cr_snd 1 4)) $$ HO SS Hlev
  iintro ⟨HO, SS, Z14⟩
  iapply (sends_pop A B K c 2 3 _ (semS 2 3 _ _) _ _ (cr_snd 2 3)) $$ HO SS Hlev
  iintro ⟨HO, SS, Z23⟩
  iapply (sends_pop A B K c 2 4 _ (semS 2 4 _ _) _ _ (cr_snd 2 4)) $$ HO SS Hlev
  iintro ⟨HO, SS, Z24⟩
  iapply (sends_pop A B K c 0 5 _ (semS 0 5 _ _) _ _ (cr_snd 0 5)) $$ HO SS Hlev
  iintro ⟨HO, SS, Z05⟩
  iapply (sends_pop A B K c 1 5 _ (semS 1 5 _ _) _ _ (cr_snd 1 5)) $$ HO SS Hlev
  iintro ⟨HO, SS, Z15⟩
  iapply (sends_pop A B K c 2 5 _ (semS 2 5 _ _) _ _ (cr_snd 2 5)) $$ HO SS Hlev
  iintro ⟨HO, SS, Z25⟩
  rw [wp_ret]
  imodintro
  iapply HQ
  unfold post scr Sends Recvs sendPay
  icases SS with ⟨-, -, SS⟩
  icases RS with ⟨-, RS⟩
  iframe HO HA HB Hbz
  isplitl [o0 o1 o2]
  · iapply (show _ ⊢ hv c (Memref.whole cc0_stg2_0) Finset.univ (outV A B c) from cols_holds c oM (outV A B c)) $$ [o0 o1 o2]
    isplitl [o0]; · iexact o0
    isplitl [o1]; · iexact o1
    iexact o2
  isplitr [SS RS]
  · isplitl [Ha]; · iapply holds_any $$ Ha
    isplitl [b0 b1 b2]
    · iapply (show _ ⊢ av (F := F) c (Memref.whole cc0_scratch1) Finset.univ from back_cols c b16M (b16 B c)) $$ [b0 b1 b2]
      isplitl [b0]; · iexact b0
      isplitl [b1]; · iexact b1
      iexact b2
    isplitl [p03 p02 p01 p00]
    · iapply (show _ ⊢ av (F := F) c (Memref.whole cc0_scratch2) Finset.univ from slots_four c (prt 0)) $$ [p03 p02 p01 p00]
      isplitl [p03]; · iapply holds_any; iexact p03
      isplitl [p02]; · iapply holds_any; iexact p02
      isplitl [p01]; · iapply holds_any; iexact p01
      iapply holds_any; iexact p00
    isplitl [p13 p12 p11 p10]
    · iapply (show _ ⊢ av (F := F) c (Memref.whole cc0_scratch3) Finset.univ from slots_four c (prt 1)) $$ [p13 p12 p11 p10]
      isplitl [p13]; · iapply holds_any; iexact p13
      isplitl [p12]; · iapply holds_any; iexact p12
      isplitl [p11]; · iapply holds_any; iexact p11
      iapply holds_any; iexact p10
    isplitl [p23 p22 p21 p20]
    · iapply (show _ ⊢ av (F := F) c (Memref.whole cc0_scratch4) Finset.univ from slots_four c (prt 2)) $$ [p23 p22 p21 p20]
      isplitl [p23]; · iapply holds_any; iexact p23
      isplitl [p22]; · iapply holds_any; iexact p22
      isplitl [p21]; · iapply holds_any; iexact p21
      iapply holds_any; iexact p20
    isplitl [Z00 Z01 Z02]
    · iapply (show _ ⊢ av (F := F) c (Memref.whole cc0_scratch5) Finset.univ from runs_four c (snd 0 0)) $$ [Z00 Z01 Z02]
      isplitl [Z00]; · iapply holds_any; iexact Z00
      isplitl [Z01]; · iapply holds_any; iexact Z01
      iapply holds_any; iexact Z02
    isplitl [Z10 Z11 Z12]
    · iapply (show _ ⊢ av (F := F) c (Memref.whole cc0_scratch6) Finset.univ from runs_four c (snd 0 1)) $$ [Z10 Z11 Z12]
      isplitl [Z10]; · iapply holds_any; iexact Z10
      isplitl [Z11]; · iapply holds_any; iexact Z11
      iapply holds_any; iexact Z12
    isplitl [Z20 Z21 Z22]
    · iapply (show _ ⊢ av (F := F) c (Memref.whole cc0_scratch7) Finset.univ from runs_four c (snd 0 2)) $$ [Z20 Z21 Z22]
      isplitl [Z20]; · iapply holds_any; iexact Z20
      isplitl [Z21]; · iapply holds_any; iexact Z21
      iapply holds_any; iexact Z22
    isplitl [Z03 Z04]
    · iapply (show _ ⊢ av (F := F) c (Memref.whole cc0_scratch8) Finset.univ from slots_two c (snd 1 0)) $$ [Z03 Z04]
      isplitl [Z03]; · iapply holds_any; iexact Z03
      iapply holds_any; iexact Z04
    isplitl [Z13 Z14]
    · iapply (show _ ⊢ av (F := F) c (Memref.whole cc0_scratch9) Finset.univ from slots_two c (snd 1 1)) $$ [Z13 Z14]
      isplitl [Z13]; · iapply holds_any; iexact Z13
      iapply holds_any; iexact Z14
    isplitl [Z23 Z24]
    · iapply (show _ ⊢ av (F := F) c (Memref.whole cc0_scratch10) Finset.univ from slots_two c (snd 1 2)) $$ [Z23 Z24]
      isplitl [Z23]; · iapply holds_any; iexact Z23
      iapply holds_any; iexact Z24
    isplitl [Z05]
    · iapply (show _ ⊢ av (F := F) c (Memref.whole cc0_scratch11) Finset.univ from slot_one c (snd 2 0)) $$ [Z05]
      iapply holds_any; iexact Z05
    isplitl [Z15]
    · iapply (show _ ⊢ av (F := F) c (Memref.whole cc0_scratch12) Finset.univ from slot_one c (snd 2 1)) $$ [Z15]
      iapply holds_any; iexact Z15
    isplitl [Z25]
    · iapply (show _ ⊢ av (F := F) c (Memref.whole cc0_scratch13) Finset.univ from slot_one c (snd 2 2)) $$ [Z25]
      iapply holds_any; iexact Z25
    isplitl [R00 R01 R02]
    · iapply (show _ ⊢ av (F := F) c (Memref.whole cc0_scratch14) Finset.univ from runs_four c (rcv 0 0)) $$ [R00 R01 R02]
      isplitl [R00]; · iapply holds_any; iexact R00
      isplitl [R01]; · iapply holds_any; iexact R01
      iapply holds_any; iexact R02
    isplitl [R10 R11 R12]
    · iapply (show _ ⊢ av (F := F) c (Memref.whole cc0_scratch15) Finset.univ from runs_four c (rcv 0 1)) $$ [R10 R11 R12]
      isplitl [R10]; · iapply holds_any; iexact R10
      isplitl [R11]; · iapply holds_any; iexact R11
      iapply holds_any; iexact R12
    isplitl [R20 R21 R22]
    · iapply (show _ ⊢ av (F := F) c (Memref.whole cc0_scratch16) Finset.univ from runs_four c (rcv 0 2)) $$ [R20 R21 R22]
      isplitl [R20]; · iapply holds_any; iexact R20
      isplitl [R21]; · iapply holds_any; iexact R21
      iapply holds_any; iexact R22
    isplitl [R03 R04]
    · iapply (show _ ⊢ av (F := F) c (Memref.whole cc0_scratch17) Finset.univ from slots_two c (rcv 1 0)) $$ [R03 R04]
      isplitl [R03]; · iapply holds_any; iexact R03
      iapply holds_any; iexact R04
    isplitl [R13 R14]
    · iapply (show _ ⊢ av (F := F) c (Memref.whole cc0_scratch18) Finset.univ from slots_two c (rcv 1 1)) $$ [R13 R14]
      isplitl [R13]; · iapply holds_any; iexact R13
      iapply holds_any; iexact R14
    isplitl [R23 R24]
    · iapply (show _ ⊢ av (F := F) c (Memref.whole cc0_scratch19) Finset.univ from slots_two c (rcv 1 2)) $$ [R23 R24]
      isplitl [R23]; · iapply holds_any; iexact R23
      iapply holds_any; iexact R24
    isplitl [R05]
    · iapply (show _ ⊢ av (F := F) c (Memref.whole cc0_scratch20) Finset.univ from slot_one c (rcv 2 0)) $$ [R05]
      iapply holds_any; iexact R05
    isplitl [R15]
    · iapply (show _ ⊢ av (F := F) c (Memref.whole cc0_scratch21) Finset.univ from slot_one c (rcv 2 1)) $$ [R15]
      iapply holds_any; iexact R15
    iapply (show _ ⊢ av (F := F) c (Memref.whole cc0_scratch22) Finset.univ from slot_one c (rcv 2 2)) $$ [R25]
    iapply holds_any; iexact R25
  isplitl [SS]
  · iapply (sepAll_perm (doneS c) (by decide)) $$ SS
  · iapply (sepAll_perm (doneR c) (by decide)) $$ RS

end Cert.KernelIdeal.Pf
-- ==== Proof.KernelIdeal.Deal.lean ====
/-
What the launch deals: each device's semaphores made cells of the protocol, their invariants known to all, and the
right to raise a semaphore given to the device that raises it.
-/
module

public import proofs.«01_k».proof.Proof.KernelIdeal.Body

@[expose] public section

noncomputable section

namespace Cert.KernelIdeal.Pf

open Cert.KernelIdeal Cert.KernelIdeal.Gen Cert.Holds
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## More on conjunctions over a list -/

/-- A conjunction over two lists in a row splits into one over each, -/
theorem sepAll_append {ι : Type} (P : ι → sProp 𝕄) (l l' : List ι) : sepAll P (l ++ l') ⊢ iprop(sepAll P l ∗ sepAll P l') := by
  induction l with
  | nil => rw [List.nil_append, sepAll_nil]; iintro H; isplitr; · iempintro
           iexact H
  | cons x l ih =>
    rw [List.cons_append, sepAll_cons, sepAll_cons]
    iintro ⟨Hx, Hl⟩
    ihave ⟨H1, H2⟩ := ih $$ Hl
    iframe Hx H1 H2

/-- and the two join again. -/
theorem append_sepAll {ι : Type} (P : ι → sProp 𝕄) (l l' : List ι) : iprop(sepAll P l ∗ sepAll P l') ⊢ sepAll P (l ++ l') := by
  induction l with
  | nil => rw [List.nil_append, sepAll_nil]; iintro ⟨-, H⟩; iexact H
  | cons x l ih =>
    rw [List.cons_append, sepAll_cons, sepAll_cons]
    iintro ⟨⟨Hx, H1⟩, H2⟩
    isplitl [Hx]; · iexact Hx
    iapply ih $$ [H1 H2]
    iframe H1 H2

/-- A conjunction over the images of a list is one over the list. -/
theorem sepAll_map {ι κ : Type} (P : κ → sProp 𝕄) (f : ι → κ) (l : List ι) : sepAll P (l.map f) = sepAll (fun x => P (f x)) l := by
  induction l with
  | nil => rfl
  | cons x l ih => rw [List.map_cons, sepAll_cons, sepAll_cons, ih]

/-- Two conjunctions over one list as one, -/
theorem sepAll_sep {ι : Type} (P Q : ι → sProp 𝕄) (l : List ι) : iprop(sepAll P l ∗ sepAll Q l) ⊢ sepAll (fun x => iprop(P x ∗ Q x)) l := by
  induction l with
  | nil => simp only [sepAll_nil]; iintro ⟨-, -⟩; iempintro
  | cons x l ih =>
    simp only [sepAll_cons]
    iintro ⟨⟨H1, G1⟩, ⟨H2, G2⟩⟩
    isplitl [H1 H2]; · iframe H1 H2
    iapply ih $$ [G1 G2]
    iframe G1 G2

/-- and with knowledge shared by all members. -/
theorem sepAll_known {ι : Type} {R : sProp 𝕄} [BI.Persistent R] {P Q : ι → sProp 𝕄} (h : ∀ x, iprop(R ∗ P x) ⊢ Q x) (l : List ι) :
    iprop(R ∗ sepAll P l) ⊢ sepAll Q l := by
  induction l with
  | nil => simp only [sepAll_nil]; iintro ⟨-, -⟩; iempintro
  | cons x l ih =>
    simp only [sepAll_cons]
    iintro ⟨#HR, H, G⟩
    isplitl [H]
    · iapply (h x) $$ [H]
      isplitr; · iexact HR
      iexact H
    · iapply ih $$ [G]
      isplitr; · iexact HR
      iexact G

/-- A conjunction over a finite set gives one over a list of distinct members. -/
theorem sepAll_of_bigSep {ι κ : Type} [DecidableEq κ] (Φ : κ → sProp 𝕄) (f : ι → κ) : ∀ (l : List ι) (S : Finset κ), (l.map f).Nodup → (∀ x ∈ l, f x ∈ S) →
    bigSep S Φ ⊢ sepAll (fun x => Φ (f x)) l
  | [], S, _, _ => by rw [sepAll_nil]; iintro -; iempintro
  | x :: l, S, hn, hS => by
    rw [bigSep_erase (hS x List.mem_cons_self), sepAll_cons]
    refine BIClass.sep_mono (BIBase.Entails.rfl) (sepAll_of_bigSep Φ f l (S.erase (f x)) (List.nodup_cons.mp hn).2 fun y hy => ?_)
    exact Finset.mem_erase.mpr ⟨fun h => (List.nodup_cons.mp hn).1 (h ▸ List.mem_map_of_mem hy), hS y (List.mem_cons_of_mem _ hy)⟩

/-- Conjunctions over the devices and over a list may be exchanged. -/
theorem bigSep_sepAll {ι : Type} (P : Dev nD → ι → sProp 𝕄) (l : List ι) :
    (bigSep Finset.univ fun c => sepAll (P c) l) = sepAll (fun x => bigSep Finset.univ fun c => P c x) l := by
  induction l with
  | nil => simp only [sepAll_nil]; exact BI.bigSep_emp_const _
  | cons x l ih => simp only [sepAll_cons]; rw [bigSep_sep', ih]

/-! ## The cells -/

/-- A device's cells: its barrier semaphore, a send (`false`) and a receive (`true`) semaphore for each copy. -/
abbrev Ck : Type := Option (Bool × (Fin 3 × Fin 6))

/-- The kernel's own semaphores. -/
def osem (k : Bool × (Fin 3 × Fin 6)) : SemLoc sig := if k.1 then .dma (rS k.2.1 k.2.2) else .dma (sS k.2.1 k.2.2)

/-- The semaphore of a cell of a device. -/
def csem : Ck → SemLoc sig
  | none => .reg barS
  | some k => osem k

/-- A device's cell among the semaphores of all devices. -/
def kcell (ck : Dev nD × Ck) : GSem nD τ sig := ((ck.1 : Thread nD τ), csem ck.2)

/-- Different cells of a device are different semaphores, -/
theorem csem_inj : Function.Injective csem := by decide +kernel

/-- also across devices. -/
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- The cells of all devices. -/
def allCells : Finset (GSem nD τ sig) := Finset.univ.map ⟨kcell, kcell_inj⟩

/-- A device's cells in a list. -/
def cks : List Ck := none :: (copies.map (fun x => some (false, x)) ++ copies.map (fun x => some (true, x)))

/-- A conjunction over a device's cells: the barrier's, the send semaphores', the receive semaphores'. -/
theorem bigSep_cks (Φ : Ck → sProp 𝕄) :
    bigSep Finset.univ Φ ⊢ iprop(Φ none ∗ sepAll (fun x => Φ (some (false, x))) copies ∗ sepAll (fun x => Φ (some (true, x))) copies) := by
  rw [sepAll_univ Φ cks (by decide) (by decide)]
  unfold cks
  rw [sepAll_cons, ← sepAll_map Φ (fun x => some (false, x)), ← sepAll_map Φ (fun x => some (true, x))]
  exact BIClass.sep_mono (BIBase.Entails.rfl) (sepAll_append Φ _ _)

/-- The duties of a device's own cells: one per partner at the barrier, one for each other cell. -/
abbrev Tk : Type := Fin 3 ⊕ (Bool × (Fin 3 × Fin 6))

/-- The duty that a member of the list stands for: cell, round, and who discharges it. -/
def tokOf (ck : Dev nD × Tk) : GSem nD τ sig × ℕ × Fin 3 := match ck.2 with
  | .inl a => (barCell ck.1, 0, a)
  | .inr k => (kcell (ck.1, some k), 0, 0)

/-- Different members stand for different duties. -/
theorem tokOf_inj : Function.Injective tokOf := by
  rintro ⟨c, k⟩ ⟨c', k'⟩ h
  cases k with
  | inl a =>
    cases k' with
    | inl a' =>
      have h1 : c = c' := congrArg (fun x : GSem nD τ sig × ℕ × Fin 3 => x.1.1.1) h
      have h2 : a = a' := congrArg (fun x : GSem nD τ sig × ℕ × Fin 3 => x.2.2) h
      rw [h1, h2]
    | inr k' =>
      have h1 : csem none = csem (some k') := congrArg (fun x : GSem nD τ sig × ℕ × Fin 3 => x.1.2) h
      cases csem_inj h1
  | inr k =>
    cases k' with
    | inl a' =>
      have h1 : csem (some k) = csem none := congrArg (fun x : GSem nD τ sig × ℕ × Fin 3 => x.1.2) h
      cases csem_inj h1
    | inr k' =>
      have h1 : c = c' := congrArg (fun x : GSem nD τ sig × ℕ × Fin 3 => x.1.1.1) h
      have h2 : csem (some k) = csem (some k') := congrArg (fun x : GSem nD τ sig × ℕ × Fin 3 => x.1.2) h
      rw [h1, Option.some.inj (csem_inj h2)]

/-- The duties of all devices' cells. -/
def allToks : Finset (GSem nD τ sig × ℕ × Fin 3) := Finset.univ.map ⟨tokOf, tokOf_inj⟩

/-- A device's duties in a list. -/
def tks : List Tk := [0, 1, 2].map .inl ++ (copies.map (fun x => .inr (false, x)) ++ copies.map (fun x => .inr (true, x)))

/-- A conjunction over a device's duties: the barrier's three, the send semaphores', the receive semaphores'. -/
theorem bigSep_tks (Φ : Tk → sProp 𝕄) :
    bigSep Finset.univ Φ
      ⊢ iprop(sepAll (fun a => Φ (.inl a)) [0, 1, 2] ∗ sepAll (fun x => Φ (.inr (false, x))) copies ∗ sepAll (fun x => Φ (.inr (true, x))) copies) := by
  rw [sepAll_univ Φ tks (by decide) (by decide)]
  unfold tks
  rw [← sepAll_map Φ (fun x => .inr (false, x)), ← sepAll_map Φ (fun x => .inr (true, x)), ← sepAll_map Φ .inl]
  exact BIBase.Entails.trans (sepAll_append Φ _ _) (BIClass.sep_mono (BIBase.Entails.rfl) (sepAll_append Φ _ _))

variable (A : Dev nD → Vec F S1536x768 .f32) (B : Dev nD → Vec F S768x1536 .f32)

/-- The duties of a device's own cells, -/
def toks (c : Dev nD) : sProp 𝕄 :=
  iprop(sepAll (fun a => dutyTok ER (barCell c) 0 a) [0, 1, 2] ∗ sepAll (fun x : Fin 3 × Fin 6 => dutyTok ER (sCell c x.1 x.2) 0 0) copies
    ∗ sepAll (fun x : Fin 3 × Fin 6 => dutyTok ER (rCell c x.1 x.2) 0 0) copies)
/-- and those the device itself discharges. -/
def payToks (c : Dev nD) : sProp 𝕄 :=
  iprop(sepAll (fun a => dutyTok ER (barCell (flip a c)) 0 a) [0, 1, 2] ∗ sepAll (fun x : Fin 3 × Fin 6 => dutyTok ER (sCell c x.1 x.2) 0 0) copies
    ∗ sepAll (fun x : Fin 3 × Fin 6 => dutyTok ER (rCell (pW x.1 x.2 c) x.1 x.2) 0 0) copies)

/-- Every duty goes to the partner that discharges it. -/
theorem toks_around : (bigSep Finset.univ fun c : Dev nD => (toks c : sProp 𝕄)) ⊢ bigSep Finset.univ fun c : Dev nD => payToks c := by
  unfold toks payToks
  simp only [bigSep_sep', bigSep_sepAll]
  refine BIClass.sep_mono (sepAll_mono _ _ _ fun a => ?_) (BIClass.sep_mono (BIBase.Entails.rfl) (sepAll_mono _ _ _ fun x => ?_))
  · exact BIBase.Entails.of_eq (bigSep_univ_equiv (flipE a) fun c : Dev nD => (dutyTok ER (barCell c) 0 a : sProp 𝕄))
  · exact BIBase.Entails.of_eq (bigSep_univ_equiv (flipE (ax x.1 (tW x.2))) fun c : Dev nD => (dutyTok ER (rCell c x.1 x.2) 0 0 : sProp 𝕄))

/-- What the launch gives device `c`: the state of its cells, its positions at them, their duties. -/
def G (c : Dev nD) : sProp 𝕄 :=
  iprop((bigSep Finset.univ fun k : Ck => roundState ER (Rd A B) (kcell (c, k)) 0)
    ∗ (bigSep Finset.univ fun k : Ck => atPos ER (kcell (c, k)) 0 ∅ 0) ∗ (bigSep Finset.univ fun k : Ck => reached ER (kcell (c, k)) 0) ∗ toks c)

/-- The launch's ghost state gives every device its share. -/
theorem fund_all : BI.own (ER (initOf allCells allToks)) ⊢ (|==> bigSep Finset.univ (G A B) : sProp 𝕄) := by
  have hX (Φ : GSem nD τ sig → sProp 𝕄) : bigSep allCells Φ = bigSep Finset.univ fun c : Dev nD => bigSep Finset.univ fun k : Ck => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => bigSep_tks _
  iintro HX
  imod (Rounds.fund ER (Rd A B) allCells allToks) $$ HX with ⟨Hst, Hr, Hat, Htok⟩
  imodintro
  ihave Hst := (BIBase.Entails.of_eq (hX fun g => roundState ER (Rd A B) g 0)) $$ Hst
  ihave Hat := (BIBase.Entails.of_eq (hX fun g => atPos ER g 0 ∅ 0)) $$ Hat
  ihave Hr := (BIBase.Entails.of_eq (hX fun g => reached ER g 0)) $$ Hr
  ihave Htok := hT $$ Htok
  unfold G; simp only [bigSep_sep']
  iframe Hst Hat Hr Htok

/-- The barrier semaphore is the only one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The semaphores of a device, all zero at launch, are its cells'. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [unscopedSems0_eq, sepAll_univ (fun k : Ck => (semVal (kcell (c, k)) 0 : sProp 𝕄)) cks (by decide) (by decide)]
  unfold Pipeline.ownSems0 cks
  rw [sepAll_univ (fun k : Bool × (Fin 3 × Fin 6) => (semVal ((c : Thread nD τ), osem k) 0 : sProp 𝕄))
      (copies.map (fun x => (false, x)) ++ copies.map (fun x => (true, x))) (by decide) (by decide), sepAll_cons]
  iintro ⟨HS, HB⟩
  isplitl [HB]; · iexact HB
  ihave ⟨H1, H2⟩ := (sepAll_append _ _ _) $$ HS
  iapply (append_sepAll _ _ _) $$ [H1 H2]
  simp only [sepAll_map]
  isplitl [H1]; · iexact H1
  iexact H2

/-- and back at the end. -/
theorem sems_back (c : Dev nD) :
    iprop(sepAll (doneS c) copies ∗ sepAll (doneR c) copies)
      ⊢ (Pipeline.ownSems0 (Ix := Unit) (Name := ℕ) (U := UU) (Lvl := ℕ) (Val := Elt F) (τ := τ) osem c : sProp 𝕄) := by
  unfold Pipeline.ownSems0
  rw [sepAll_univ (fun k : Bool × (Fin 3 × Fin 6) => (semVal ((c : Thread nD τ), osem k) 0 : sProp 𝕄))
      (copies.map (fun x => (false, x)) ++ copies.map (fun x => (true, x))) (by decide) (by decide)]
  iintro ⟨H1, H2⟩
  iapply (append_sepAll _ _ _) $$ [H1 H2]
  simp only [sepAll_map]
  isplitl [H1]; · iexact H1
  iexact H2

/-- A device's semaphores at zero become cells of the protocol. -/
theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k => iprop(∃ κ : ℕ, cellInv ER (Rd A B) κ (kcell (c, k))))
          ∗ (bigSep Finset.univ fun k : Ck => atPos ER (kcell (c, k)) 0 ∅ 0) ∗ (bigSep Finset.univ fun k : Ck => reached ER (kcell (c, k)) 0) ∗ toks c) := by
  unfold G
  iintro ⟨Hos, Hus, Hst, Hat, Hr, Htok⟩
  ihave Hv := (sems0 (F := F) c) $$ [Hos Hus]
  · isplitl [Hos] <;> iassumption
  imod (show iprop((bigSep Finset.univ fun k : Ck => semVal (kcell (c, k)) 0) ∗ bigSep Finset.univ fun k : Ck => roundState ER (Rd A B) (kcell (c, k)) 0)
      ⊢ (|={Set.univ}=> bigSep Finset.univ fun k => iprop(∃ κ : ℕ, cellInv ER (Rd A B) κ (kcell (c, k))) : sProp 𝕄) from by
        rw [← bigSep_sep']
        exact (bigSep_mono fun k _ => (Rounds.body_intro ER (Rd A B) (kcell (c, k))).trans inv_alloc).trans (bigSep_fupd _ _)) $$ [Hv Hst] with Hinv
  · isplitl [Hv] <;> iassumption
  imodintro
  iframe Hinv Hat Hr Htok

/-- All cells are known. -/
def records (K : GSem nD τ sig → ℕ) : sProp 𝕄 := bigSep Finset.univ fun ck : Dev nD × Ck => known A B K (kcell ck)

/-- Knowing the cells may be copied. -/
instance records_persistent (K : GSem nD τ sig → ℕ) : BI.Persistent (records A B K) := by unfold records; infer_instance

/-- Among all cells, each one is known. -/
theorem known_at (K : GSem nD τ sig → ℕ) (ck : Dev nD × Ck) : records A B K ⊢ known A B K (kcell ck) := bigSep_elim (Finset.mem_univ ck)

/-- What a device alone holds: its positions, the duties it discharges. -/
def linear (c : Dev nD) : sProp 𝕄 := iprop((bigSep Finset.univ fun k : Ck => atPos ER (kcell (c, k)) 0 ∅ 0) ∗ payToks c)

/-- What each device has once the cells are made. -/
def G' (c : Dev nD) : sProp 𝕄 := iprop(∃ K, records A B K ∗ linear c)

/-- Knowledge shared by the members of a conjunction may be used at each. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices have made, gathered and dealt again: all cells known to every device, every duty with the device that discharges it. -/
theorem regroup :
    (bigSep Finset.univ fun c : Dev nD => iprop((bigSep Finset.univ fun k => iprop(∃ κ : ℕ, cellInv ER (Rd A B) κ (kcell (c, k))))
          ∗ (bigSep Finset.univ fun k : Ck => atPos ER (kcell (c, k)) 0 ∅ 0) ∗ (bigSep Finset.univ fun k : Ck => reached ER (kcell (c, k)) 0) ∗ toks c) : sProp 𝕄)
      ⊢ bigSep Finset.univ (G' A B) := by
  rw [bigSep_sep', bigSep_sep', bigSep_sep', ← bigSep_univ_prod (fun ck : Dev nD × Ck => iprop(∃ κ : ℕ, cellInv ER (Rd A B) κ (kcell ck))),
    ← bigSep_univ_prod (fun ck : Dev nD × Ck => (reached ER (kcell ck) 0 : sProp 𝕄))]
  iintro ⟨HI, Hat, HR, Htok⟩
  ihave HK := (BI.bigSep_exists_pi Finset.univ (fun (ck : Dev nD × Ck) (κ : ℕ) => (cellInv ER (Rd A B) κ (kcell ck) : sProp 𝕄))) $$ HI
  icases HK with ⟨%K, HI⟩
  ihave Htk := (toks_around (F := F)) $$ Htok
  ihave #Hrec : records A B (fun g => K (Function.invFun kcell g)) $$ [HI HR]
  · unfold records known
    rw [bigSep_sep']
    isplitl [HI]
    · iapply (BIBase.Entails.of_eq (bigSep_congr fun (ck : Dev nD × Ck) _ => by show _ = cellInv ER (Rd A B) (K (Function.invFun kcell (kcell ck))) (kcell ck); rw [show Function.invFun kcell (kcell ck) = ck from Function.leftInverse_invFun kcell_inj ck])) $$ HI
    iexact HR
  iapply (bigSep_with (R := records A B (fun g => K (Function.invFun kcell g))) (Φ := linear) fun c _ => by
    unfold G'; iintro ⟨H1, H2⟩; iexists _; isplitl [H1]; · iexact H1
    iexact H2)
  isplitr; · iexact Hrec
  unfold linear
  rw [bigSep_sep']
  iframe Hat Htk

/-- The semaphores of all devices become cells at once. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ## The credit at launch -/

/-- What is owed to a cell before a list of actions is the sum of the amounts of those that raise it. -/
theorem owedL_apply (c : Dev nD) (g : GSem nD τ sig) (l : List Act) :
    owedL c l g () = (l.map fun x => if g = actCell c x then actAmt x else 0).sum := by
  induction l with
  | nil => rfl
  | cons x l ih =>
    unfold owedL
    rw [Pi.add_apply, Finsupp.add_apply, tallyAt_apply, ih, List.map_cons, List.sum_cons, Nat.add_comm]
    congr 1
    exact if_congr ⟨fun h => h.1, fun h => ⟨h, rfl⟩⟩ rfl rfl

/-- Summed over the devices, action by action. -/
theorem sum_owed (g : GSem nD τ sig) (l : List Act) :
    ∑ d : Dev nD, owedL d l g () = (l.map fun x => ∑ d : Dev nD, if g = actCell d x then actAmt x else 0).sum := by
  rw [Finset.sum_congr rfl fun d _ => owedL_apply d g l]
  induction l with
  | nil => simp only [List.map_nil, List.sum_nil, Finset.sum_const_zero]
  | cons x l ih => simp only [List.map_cons, List.sum_cons]; rw [Finset.sum_add_distrib, ih]

/-- What all devices owe one device's barrier or receive semaphore by one action. -/
theorem owed_bar (c : Dev nD) (x : Act) : (∑ d : Dev nD, if barCell c = actCell d x then actAmt x else 0) = if x.isLeft then 1 else 0 := by
  cases x with
  | inl a =>
    have e : ∀ d : Dev nD, (if barCell c = actCell d (.inl a) then actAmt (.inl a) else 0) = if flip a c = d then 1 else 0 := fun d => by
      refine if_congr ⟨fun h => ?_, fun h => ?_⟩ rfl rfl
      · have h1 : c = flip a d := congrArg (fun g : GSem nD τ sig => g.1.1) h
        rw [h1, flip_flip]
      · subst h; show barCell c = barCell (flip a (flip a c)); rw [flip_flip]
    rw [Finset.sum_congr rfl fun d _ => e d, Finset.sum_ite_eq Finset.univ (flip a c) fun _ => 1, if_pos (Finset.mem_univ _)]
    rfl
  | inr y =>
    rw [Finset.sum_eq_zero fun d _ => if_neg fun h => by
      have h1 : csem none = csem (some (true, y)) := congrArg Prod.snd h
      cases csem_inj h1]
    rfl

/-- A receive semaphore is owed its copy's credit by that copy and nothing by another action. -/
theorem owed_recv (c : Dev nD) (y : Fin 3 × Fin 6) (x : Act) :
    (∑ d : Dev nD, if rCell c y.1 y.2 = actCell d x then actAmt x else 0) = if x = .inr y then cr y.1 y.2 else 0 := by
  cases x with
  | inl a =>
    rw [Finset.sum_eq_zero fun d _ => if_neg fun h => by
      have h1 : csem (some (true, y)) = csem none := congrArg Prod.snd h
      cases csem_inj h1]
    rfl
  | inr z =>
    by_cases hz : z = y
    · subst hz
      have e : ∀ d : Dev nD, (if rCell c z.1 z.2 = actCell d (.inr z) then actAmt (.inr z) else 0) = if pW z.1 z.2 c = d then cr z.1 z.2 else 0 := fun d => by
        refine if_congr ⟨fun h => ?_, fun h => ?_⟩ rfl rfl
        · have h1 : c = pW z.1 z.2 d := congrArg (fun g : GSem nD τ sig => g.1.1) h
          rw [h1]; exact flip_flip _ _
        · subst h
          show rCell c z.1 z.2 = rCell (pW z.1 z.2 (pW z.1 z.2 c)) z.1 z.2
          rw [show pW z.1 z.2 (pW z.1 z.2 c) = c from flip_flip _ _]
      rw [Finset.sum_congr rfl fun d _ => e d, Finset.sum_ite_eq Finset.univ (pW z.1 z.2 c) fun _ => cr z.1 z.2, if_pos (Finset.mem_univ _), if_pos rfl]
    · rw [if_neg fun h => hz (Sum.inr.inj h), Finset.sum_eq_zero fun d _ => if_neg fun h => by
        have h1 : csem (some (true, y)) = csem (some (true, z)) := congrArg Prod.snd h
        exact hz (Prod.mk.inj (Option.some.inj (csem_inj h1))).2.symm]

/-- A sum over a list in which only one member, occurring once, counts. -/
theorem sum_single {ι : Type} [DecidableEq ι] (l : List ι) (x : ι) (n : ℕ) (h1 : l.count x = 1) : (l.map fun y => if y = x then n else 0).sum = n := by
  suffices h : (l.map fun y => if y = x then n else 0).sum = l.count x * n by rw [h, h1, Nat.one_mul]
  clear h1
  induction l with
  | nil => simp
  | cons y l ih =>
    rw [List.map_cons, List.sum_cons, ih]
    by_cases h : y = x
    · subst h; rw [if_pos rfl, List.count_cons_self, Nat.succ_mul, Nat.add_comm]
    · rw [if_neg h, List.count_cons_of_ne h, Nat.zero_add]

/-- What the devices owe at launch. -/
abbrev O₀ (c : Dev nD) : CellTallies nD τ sig Unit := owedL c acts

/-- At launch a device's barrier is owed three units in all, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, sum_owed, List.map_congr_left fun x _ => owed_bar c x]
  decide

/-- and each receive semaphore its copy's credit. -/
theorem launch_recv (c : Dev nD) (y : Fin 3 × Fin 6) :
    tallyOn (rCell c y.1 y.2) (launchCredit (Pipeline.owing O₀) 0 (rCell c y.1 y.2)) = (tallyAt (rCell c y.1 y.2) () (cr y.1 y.2) : CellTallies nD τ sig Unit) := by
  unfold tallyAt; refine congrArg _ (Finsupp.ext fun u => ?_); cases u
  rw [Pipeline.launchCredit_owing, Finsupp.single_eq_same, sum_owed, List.map_congr_left fun x _ => owed_recv c y x, sum_single _ _ _ (by revert y; decide)]

/-- The credit of a device's barrier and of the copies that will arrive. -/
theorem creds (c : Dev nD) :
    (Pipeline.launchCred O₀ c : sProp 𝕄)
      ⊢ iprop(cred (tallyAt (barCell c) () 3) ∗ sepAll (fun x : Fin 3 × Fin 6 => cred (tallyAt (rCell c x.1 x.2) () (cr x.1 x.2))) recvs) := by
  unfold Pipeline.launchCred
  rw [bigSep_univ_at _ (SemLoc.reg barS), launch_bar]
  refine sep_mono_right (BIBase.Entails.trans (sepAll_of_bigSep _ (fun x : Fin 3 × Fin 6 => SemLoc.dma (rS x.1 x.2)) recvs _ (by decide) ?_) ?_)
  · exact fun x _ => Finset.mem_erase.mpr ⟨fun h => (nomatch (show SemLoc.dma (rS x.1 x.2) = SemLoc.reg barS from h)), Finset.mem_univ _⟩
  · exact sepAll_mono _ _ _ fun x => BIBase.Entails.of_eq (by rw [launch_recv])

/-- What a device's steps need of the protocol. -/
theorem kits_intro (K : GSem nD τ sig → ℕ) (c : Dev nD) :
    iprop(records A B K ∗ linear c ∗ cred (tallyAt (barCell c) () 3) ∗ sepAll (fun x : Fin 3 × Fin 6 => cred (tallyAt (rCell c x.1 x.2) () (cr x.1 x.2))) recvs)
      ⊢ kits A B K c := by
  unfold linear payToks kits barKit
  iintro ⟨#HR, ⟨Hat, HtB, HtS, HtR⟩, Hc, Hcs⟩
  ihave ⟨HaB, HaS, HaR⟩ := (bigSep_cks _) $$ Hat
  isplitl [HtB]
  · iapply (sepAll_known (R := records A B K) (P := fun a => dutyTok ER (barCell (flip a c)) 0 a) (fun a => ?_) [0, 1, 2]) $$ [HtB]
    · unfold sigKit
      iintro ⟨#HR, H⟩
      isplitr; · iapply (known_at A B K (flip a c, none)) $$ HR
      iexact H
    · isplitr; · iexact HR
      iexact HtB
  isplitl [Hc HaB]
  · isplitr; · iapply (known_at A B K (c, none)) $$ HR
    isplitl [Hc]; · iexact Hc
    iexact HaB
  isplitl [HtS HtR]
  · ihave Ht := (sepAll_sep _ _ _) $$ [HtS HtR]
    · isplitl [HtS]; · iexact HtS
      iexact HtR
    iapply (sepAll_known (R := records A B K) (P := fun x : Fin 3 × Fin 6 => iprop(dutyTok ER (sCell c x.1 x.2) 0 0 ∗ dutyTok ER (rCell (pW x.1 x.2 c) x.1 x.2) 0 0)) (fun x => ?_) copies) $$ [Ht]
    · unfold fireKit
      iintro ⟨#HR, H1, H2⟩
      isplitr; · iapply (known_at A B K (c, some (false, x))) $$ HR
      isplitr; · iapply (known_at A B K (pW x.1 x.2 c, some (true, x))) $$ HR
      isplitl [H1]; · iexact H1
      iexact H2
    · isplitr; · iexact HR
      iexact Ht
  isplitl [Hcs HaR]
  · ihave HaR := (sepAll_perm _ (l' := recvs) (by decide)) $$ HaR
    ihave Ht := (sepAll_sep _ _ _) $$ [Hcs HaR]
    · isplitl [Hcs]; · iexact Hcs
      iexact HaR
    iapply (sepAll_known (R := records A B K) (P := fun x : Fin 3 × Fin 6 => iprop(cred (tallyAt (rCell c x.1 x.2) () (cr x.1 x.2)) ∗ atPos ER (rCell c x.1 x.2) 0 ∅ 0)) (fun x => ?_) recvs) $$ [Ht]
    · unfold recvKit
      iintro ⟨#HR, H1, H2⟩
      isplitr; · iapply (known_at A B K (c, some (true, x))) $$ HR
      isplitl [H1]; · iexact H1
      iexact H2
    · isplitr; · iexact HR
      iexact Ht
  iapply (sepAll_known (R := records A B K) (fun x => ?_) copies) $$ [HaS]
  · unfold sendKit
    iintro ⟨#HR, H⟩
    isplitr; · iapply (known_at A B K (c, some (false, x))) $$ HR
    iexact H
  · isplitr; · iexact HR
    iexact HaS

end Cert.KernelIdeal.Pf
-- ==== Proof.KernelIdeal.Launch.lean ====
/-
The kernel launched: from any memory the program runs to its end, every semaphore back at zero, and leaves in each
window's array what the pipeline and the body write there.
-/
module

public import proofs.«01_k».proof.Proof.KernelIdeal.Deal
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Pipeline.ValueKit.Geometry
public import Idealize.ShloMosaic.Lib.Tactic

@[expose] public section

noncomputable section

namespace Cert.KernelIdeal.Pf

open Cert.KernelIdeal Cert.KernelIdeal.Gen Cert.Holds
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (l : Loc nD τ sig) → Buf (Elt F) l) (ρ : Dev nD → PrngReg)

/-- The launch's memory, semaphores at zero. -/
def s₀ : MemSt nD τ sig (Elt F) := ⟨m, fun _ => 0, ρ⟩

/-- What each device's two input windows hold: its columns of the left matrix, -/
def aV (c : Dev nD) : Vec F S1536x768 .f32 := (win0_0.blk (0 : Fin 1)).view.read (Elt F) (m ((c : Thread nD τ).loc main_arg0))
/-- its rows of the right one. -/
def bV (c : Dev nD) : Vec F S768x1536 .f32 := (win0_1.blk (0 : Fin 1)).view.read (Elt F) (m ((c : Thread nD τ).loc main_arg1))

/-- What a device's body starts from, -/
def Φ₀ (c : Dev nD) : sProp 𝕄 := iprop((∃ K, kits (aV m) (bV m) K c) ∗ levAts L lv ∗ scr c)
/-- and what it leaves beside its windows. -/
def Φ₁ (c : Dev nD) : sProp 𝕄 := iprop(scr c ∗ sepAll (doneS c) copies ∗ sepAll (doneR c) copies ∗ semVal (barCell c) 0)

/-- The pipeline's data: the arrays at launch, the windows after the point, the assertions between. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aV m c
    | ⟨1, _⟩ => bV m c
    | ⟨2, _⟩ => outV (aV m) (bV m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The only point of the grid. -/
abbrev t₀ : Fin cfg0.N := t0_0

/-- A conjunction over the three windows, written out. -/
theorem bigSep_W (Φ : Fin cfg0.W → sProp 𝕄) : bigSep Finset.univ Φ = iprop(Φ (0 : Fin 3) ∗ Φ (1 : Fin 3) ∗ Φ (2 : Fin 3)) := bigSep_W0 Φ

/-- Owning a whole buffer at given contents is holding its points-to at them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A device's staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A staging buffer at given contents is held whole at them, -/
theorem stg_hv (c : Dev nD) (b : Ref sig .tc) (X : b.ty.Contents (Elt F)) : (stg c b X : sProp 𝕄) ⊢ holds (c : Thread nD τ) (Memref.whole b) Finset.univ X := by
  iintro ⟨%f, %hf, H⟩
  subst hf
  iapply (holds_whole (c := (c : Thread nD τ)) (b := b) f)
  iexact H

/-- and back; -/
theorem hv_stg (c : Dev nD) (b : Ref sig .tc) (X : b.ty.Contents (Elt F)) : (holds (c : Thread nD τ) (Memref.whole b) Finset.univ X : sProp 𝕄) ⊢ stg c b X := by
  iintro H
  iexists X
  isplitr; · (ipureintro; rfl)
  iapply (whole_holds (c := (c : Thread nD τ)) (b := b) X)
  iexact H

/-- or held whole at any contents. -/
theorem stg_av (c : Dev nD) (b : Ref sig .tc) (X : b.ty.Contents (Elt F)) : (stg c b X : sProp 𝕄) ⊢ anyOn (c : Thread nD τ) (Memref.whole b) Finset.univ := by
  iintro ⟨%f, -, H⟩
  iapply (any_whole (c := (c : Thread nD τ)) (b := b) f)
  iexact H

/-- A scratch buffer at some contents, either way. -/
theorem scr_in (c : Dev nD) (b : Ref sig .tc) :
    iprop(∃ f : Buf (Elt F) ((c : Thread nD τ).loc b), ((c : Thread nD τ).loc b) ↦{fullShare} f) ⊢ (anyOn (c : Thread nD τ) (Memref.whole b) Finset.univ : sProp 𝕄) := by
  iintro ⟨%f, H⟩
  iapply (any_whole (c := (c : Thread nD τ)) (b := b) f)
  iexact H

/-- The memory that the kernel scopes beside its windows is its scratch buffers, -/
theorem rest_scr (c : Dev nD) : (Pipeline.scopedRest (Ix := Unit) (Name := ℕ) (U := UU) (Lvl := ℕ) (Val := Elt F) cfg0.spec c : sProp 𝕄) ⊢ scr c := by
  rw [show cfg0.spec = spec0 from rfl, scopedRest0_eq]
  unfold scr
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  refine BIClass.sep_mono (scr_in c _) ?_
  exact scr_in c _

/-- and back. -/
theorem scr_rest (c : Dev nD) : (scr c : sProp 𝕄) ⊢ (Pipeline.scopedRest (Ix := Unit) (Name := ℕ) (U := UU) (Lvl := ℕ) (Val := Elt F) cfg0.spec c) := by
  rw [show cfg0.spec = spec0 from rfl, scopedRest0_eq]
  unfold scr
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  refine BIClass.sep_mono (whole_any (c := (c : Thread nD τ)) (b := _)) ?_
  exact whole_any (c := (c : Thread nD τ)) (b := _)

set_option maxRecDepth 4000 in
/-- What the body is given at the point of the grid: its resources and the three windows' buffers. -/
def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- What it must leave there. -/
def bodyPost (c : Dev nD) : sProp 𝕄 :=
  iprop(Φ₁ c ∗ (dats m ρ 0 c).owesAt () t₀.succ ∗ stg c cc0_stg0_0 (aV m c) ∗ stg c cc0_stg1_0 (bV m c) ∗ stg c cc0_stg2_0 (outV (aV m) (bV m) c))

set_option maxRecDepth 4000 in
/-- Before the body the left window's buffer holds the device's columns, -/
theorem before0 (c : Dev nD) (d) : (dats m ρ 0 c).before (0 : Fin 3) t₀ d = aV m c := by
  unfold Dat.before; rw [if_pos (fetch0_0 t₀)]; rfl
set_option maxRecDepth 4000 in
/-- and the right one's its rows. -/
theorem before1 (c : Dev nD) (d) : (dats m ρ 0 c).before (1 : Fin 3) t₀ d = bV m c := by
  unfold Dat.before; rw [if_pos (fetch0_1 t₀)]; rfl

set_option maxRecDepth 20000 in
/-- The body does what the pipeline asks of it. -/
theorem body_obligation (c : Dev nD) : BodyObligation (dats (F := F) m ρ 0 c) (defs₀ (F := F)) 𝒱₀ () Set.univ := fun t => by
  rw [show t = t₀ from fin_N0 t]
  rw [bigSep_W, bigSep_W]
  simp only [owns_whole_eq]
  show bodyPre' m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) cc0_scratch23 cc0_scratch24) (fun _ => bodyPost m ρ c)
  unfold bodyPre' Φ₀
  iintro ⟨⟨⟨%K, HK⟩, Hlv, Hscr⟩, Ho, ⟨%d0, Ha⟩, ⟨%d1, Hb⟩, ⟨%d2, Hout⟩⟩
  rw [before0, before1]
  iapply (body_run (aV m) (bV m) K c fun _ => bodyPost m ρ c)
  isplitr []
  · unfold pre owing
    isplitl [HK]; · iexact HK
    isplitl [Hlv]; · iexact Hlv
    isplitl [Ho]
    · unfold Dat.owesAt Pipeline.owesWithin
      icases Ho with ⟨%W, -, HO⟩
      iexists W
      iexact HO
    isplitl [Ha]; · iapply (stg_hv c cc0_stg0_0 (aV m c)) $$ Ha
    isplitl [Hb]; · iapply (stg_hv c cc0_stg1_0 (bV m c)) $$ Hb
    isplitl [Hout]; · iapply (stg_av c cc0_stg2_0 _) $$ Hout
    iexact Hscr
  · unfold post owing bodyPost Φ₁ Dat.owesAt Pipeline.owesWithin
    rw [show (dats m ρ 0 c).owed t₀.succ = 0 from rfl]
    iintro ⟨⟨%W, HO⟩, Ha, Hb, Hout, Hscr, HdS, HdR, Hbar⟩
    iframe Hscr HdS HdR Hbar
    isplitl [HO]
    · iexists W
      isplitr; · ipureintro; exact fun _ _ => Or.inl trivial
      iexact HO
    isplitl [Ha]; · iapply (hv_stg c cc0_stg0_0 (aV m c)) $$ Ha
    isplitl [Hb]; · iapply (hv_stg c cc0_stg1_0 (bV m c)) $$ Hb
    iapply (hv_stg c cc0_stg2_0 (outV (aV m) (bV m) c)) $$ Hout

/-! ## The launch -/

/-- The kernel's own semaphores are the thirty-six of the copies, apart from the windows'. -/
theorem ownSemFacts : Pipeline.OwnSemFacts cfg0.spec osem := by decide

/-- Every window's array is owned whole. -/
theorem share_eq (c : Dev nD) (w : Fin cfg0.W) : (dats m ρ 0 c).share w = fullShare := by unfold Dat.share; split <;> rfl

/-- What each device starts from. -/
def start (c : Dev nD) : sProp 𝕄 := iprop((∃ K, kits (aV m) (bV m) K c) ∗ levAts L lv)

/-- The launch's ghost state. -/
def u₀ : UU := (initOf (Pipeline.cells cfgs cellOf_inj) (Pipeline.launchToks cfgs cellOf_inj), initOf allCells allToks)

/-- What the launch deals a device is what its run starts from. -/
theorem start_intro (c : Dev nD) :
    iprop(Pipeline.unscopedRestP Pipeline.Prefetch.none cfg0.spec c (fun b => m ((c : Thread nD τ).loc b)) ∗ levAts L lv ∗ Pipeline.launchCred O₀ c
        ∗ prngReg c (ρ c) ∗ G' (aV m) (bV m) c)
      ⊢ |={Set.univ}=> iprop(start m c ∗ emp) := by
  unfold G' start
  iintro ⟨-, Hlev, Hcr, -, ⟨%K, Hrec, Hlin⟩⟩
  imodintro
  isplitr []
  · ihave ⟨H1, H2⟩ := (creds (F := F) c) $$ Hcr
    isplitr [Hlev]
    · iexists K
      iapply (kits_intro (aV m) (bV m) K c) $$ [Hrec Hlin H1 H2]
      iframe Hrec Hlin H1 H2
    iexact Hlev
  iempintro

/-- With the scratch buffers that is what the body needs, -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold start Φ₀
  iintro ⟨⟨HK, Hlev⟩, -, Hs⟩
  iframe HK Hlev
  iapply (rest_scr (F := F) c) $$ Hs

/-- and what the body leaves gives the semaphores and the scratch buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁
  iintro ⟨Hs, HS, HR, HB⟩
  isplitl [HB]; · iexact HB
  isplitr [Hs]
  · iapply (sems_back (F := F) c) $$ [HS HR]
    isplitl [HS] <;> iassumption
  iapply (scr_rest (F := F) c) $$ Hs

/-- The staging semaphores are at the bottom level. -/
theorem lv_stage (c : Dev nD) (w : Fin (cfgs 0).W) (s : Fin ((cfgs 0).win w).nbuf) : lv ((c : Thread nD τ), SemLoc.dma (((cfgs 0).win w).sem s)) () ≤ 0 := by
  revert c; fin_cases w <;> fin_cases s <;> decide

/-- The pipeline may wait for its own copies: their semaphores are at the lowest level. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (lv_stage c w s) acts (by decide)
    · exact mayWait c _ 0 (lv_stage c w s) [] (by decide)

/-- What each window's array holds at the end. -/
def finalA (c : Dev nD) (w : Fin cfg0.W) : Buf (Elt F) ((cfg0.win w).arr.view.loc (c : Thread nD τ)) := (dats m ρ 0 c).arrAt w cfg0.N

/-- Every array at the end as computed. -/
def QC : PUnit × MemSt nD τ sig (Elt F) → Prop := fun r => ∀ (c : Dev nD) (w : Fin cfg0.W), r.2.mem ((cfg0.win w).arr.view.loc (c : Thread nD τ)) = finalA m ρ c w

set_option maxRecDepth 8000 in
/-- The whole program, run from `m` with every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (aV m) (bV m)) (G' := G' (aV m) (bV m)) (u₀ := u₀)
    (hu₀ := by
      unfold u₀
      iintro Hu
      ihave H := (ownU_pair _ _) $$ Hu
      icases H with ⟨HP, HX⟩
      imod (fund_all (aV m) (bV m)) $$ HX with HG
      imodintro
      isplitl [HP] <;> iassumption)
    (hglob := glob (aV m) (bV m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two inputs end as they began, -/
theorem final_arg0 (c : Dev nD) : finalA m ρ c (0 : Fin 3) = m ((c : Thread nD τ).loc main_arg0) := (dats m ρ 0 c).arrAt_in (0 : Fin 3) rfl _
/-- and so is the right matrix; -/
theorem final_arg1 (c : Dev nD) : finalA m ρ c (1 : Fin 3) = m ((c : Thread nD τ).loc main_arg1) := (dats m ρ 0 c).arrAt_in (1 : Fin 3) rfl _

/-- the result's array as the body left its window, -/
theorem final_out (c : Dev nD) : finalA m ρ c (2 : Fin 3) = outV (aV m) (bV m) c := by
  unfold finalA
  refine (dats m ρ 0 c).arrAt_eq_of_after_last (2 : Fin 3) t₀ (by decide +kernel) (outV (aV m) (bV m) c) fun j => ?_
  rfl

/-- and a window of the whole array holds the array. -/
theorem aV_eq (c : Dev nD) : aV m c = m ((c : Thread nD τ).loc main_arg0) := by
  funext x
  unfold aV
  rw [View.read_apply]
  show m ((c : Thread nD τ).loc main_arg0) ((win0_0.blk (0 : Fin 1)).view.emb x) = _
  congr 1
  funext a
  match a with
  | 0 => exact Fin.ext (by show 0 + 1 * (x 0).val = _; omega)
  | 1 => exact Fin.ext (by show 0 + 1 * (x 1).val = _; omega)

/-- The same of the right matrix. -/
theorem bV_eq (c : Dev nD) : bV m c = m ((c : Thread nD τ).loc main_arg1) := by
  funext x
  unfold bV
  rw [View.read_apply]
  show m ((c : Thread nD τ).loc main_arg1) ((win0_1.blk (0 : Fin 1)).view.emb x) = _
  congr 1
  funext a
  match a with
  | 0 => exact Fin.ext (by show 0 + 1 * (x 0).val = _; omega)
  | 1 => exact Fin.ext (by show 0 + 1 * (x 1).val = _; omega)

/-- The program ends with its inputs as they were, its result on each device as the body computed it, and every
    semaphore at zero. -/
theorem run_all : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = outV (fun c : Dev nD => m ((c.tc : Thread nD τ).loc main_arg0)) (fun c : Dev nD => m ((c.tc : Thread nD τ).loc main_arg1)) c)
    ∧ r.2.sem = fun _ => 0) := by
  refine (θ_run defs _ _).mono (fun r h => ⟨fun c => ⟨?_, ?_, ?_⟩, h.2⟩) (run_main m ρ)
  · exact (h.1 c (0 : Fin 3)).trans (final_arg0 m ρ c)
  · exact (h.1 c (1 : Fin 3)).trans (final_arg1 m ρ c)
  · refine ((h.1 c (2 : Fin 3)).trans (final_out m ρ c)).trans ?_
    rw [show aV m = fun c : Dev nD => m ((c.tc : Thread nD τ).loc main_arg0) from funext (aV_eq m),
      show bV m = fun c : Dev nD => m ((c.tc : Thread nD τ).loc main_arg1) from funext (bV_eq m)]

end Cert.KernelIdeal.Pf
-- ==== Proof.KernelIdeal.Value.lean ====
/-
The result at the ideal values: the block of the whole matrix product. Every copy is exact there, so a device's result
is the sum over the eight devices of their products, and that sum is the product over all 6144 contracted positions.
-/
module

public import proofs.«01_k».proof.Proof.KernelIdeal.Vals
public import Idealize.ShloMosaic.Lib.MatmulPlain
public import Idealize.ShloMosaic.Lib.StackMember
public import Idealize.ShloMosaic.Lib.Layout
public import Idealize.ShloMosaic.Lib.Pipeline.Value
public import Mathlib.Tactic.Abel

@[expose] public section

noncomputable section

namespace Cert.KernelIdeal.Pf

open Cert.KernelIdeal Cert.KernelIdeal.Gen
open Idealize.ShloMosaic Idealize.SL.Sem Idealize.ShloMosaic.ValueIdx

/-! ## The payloads -/

/-- An index of a chunk as an index of a slot. -/
def up (i : S192x512.Idx) : S1x192x512.Idx := fun a => match a with
  | 0 => (⟨0, Nat.one_pos⟩ : Fin 1)
  | 1 => i 0
  | 2 => i 1

/-- A chunk stored as a slot is the chunk, -/
theorem up_cast {α : Type} (v : S192x512.Idx → α) (h) (i : S192x512.Idx) : shapeCast S1x192x512 v h (up i) = v i := by
  refine shapeCast_apply v h (up i) i ?_
  rw [Shape.rowMajor_val_two, Shape.rowMajor_val_three]
  show (i 0).val * 512 + (i 1).val = (0 * 192 + (i 0).val) * 512 + (i 1).val
  omega

/-- and a slot read as a chunk is the slot. -/
theorem down_cast {α : Type} (v : S1x192x512.Idx → α) (h) (i : S192x512.Idx) : shapeCast S192x512 v h i = v (up i) := by
  refine shapeCast_apply v h i (up i) ?_
  rw [Shape.rowMajor_val_two, Shape.rowMajor_val_three]
  show (0 * 192 + (i 0).val) * 512 + (i 1).val = (i 0).val * 512 + (i 1).val
  omega

/-- The product of a chunk by a third. -/
def prod (a : S192x768.Idx → EReal) (b : S768x512.Idx → EReal) (i : S192x512.Idx) : EReal :=
  ∑ t : Fin 768, a (ix2 (i 0) t) * b (ix2 t (i 1))

/-- The kernel's matrix product from zero is the sum of products. -/
theorem matmul_prod {φ₁ φ₂ : FTy} (a : FVec Ideal S192x768 φ₁) (b : FVec Ideal S768x512 φ₂) (i : S192x512.Idx) :
    matmul dot_S192x768_S768x512_S192x512_1_0_0_1_n_n none a b (constant S192x512 .f32 0x00000000#32) i = prod a b i := by
  obtain ⟨r, q, rfl⟩ : ∃ (r : Fin 192) (q : Fin 512), i = ix2 r q := ⟨_, _, eq_ix2 i⟩
  refine (Ideal.matmul_plain_apply none a b (constant S192x512 .f32 0x00000000#32) r q).trans ?_
  show Ideal.ofBits .f32 0x00000000#32 + _ = _
  rw [Ideal.ofBits_zero_f32, zero_add]
  rfl

/-- A slot stored for the first step is the product of its chunk and third, -/
theorem pay2_at (a : Vec Ideal S192x768 .f32) (b : Vec Ideal S768x512 .bf16) (i : S192x512.Idx) : k0_pay2 (F := Ideal) a b (up i) = prod a b i := by
  unfold k0_pay2
  rw [up_cast, shapeCast_self]
  exact matmul_prod (φ₁ := .bf16) (φ₂ := .bf16) a b i

/-- and so is a kept one. -/
theorem pay19_at (a : Vec Ideal S192x768 .bf16) (b : Vec Ideal S768x512 .bf16) (i : S192x512.Idx) : k0_pay19 (F := Ideal) a b (up i) = prod a b i := by
  unfold k0_pay19
  rw [up_cast]
  exact matmul_prod (φ₁ := .bf16) (φ₂ := .bf16) a b i

/-- A slot stored for the second step is a sum of two, -/
theorem pay32_at (a : Vec Ideal S1x192x512 .f32) (b : Vec Ideal S1x192x512 .bf16) (i : S192x512.Idx) :
    k0_pay32 (F := Ideal) a b (up i) = (a (up i) + b (up i) : EReal) := by
  unfold k0_pay32
  rw [up_cast]
  show (shapeCast S192x512 a _ i + shapeCast S192x512 b _ i : EReal) = _
  rw [down_cast, down_cast]

/-- one for the third step a sum of three, -/
theorem pay40_at (a : Vec Ideal S1x192x512 .f32) (b d : Vec Ideal S1x192x512 .bf16) (i : S192x512.Idx) :
    k0_pay40 (F := Ideal) a b d (up i) = (a (up i) + b (up i) + d (up i) : EReal) := by
  unfold k0_pay40
  rw [up_cast]
  show (shapeCast S192x512 a _ i + shapeCast S192x512 b _ i + shapeCast S192x512 d _ i : EReal) = _
  rw [down_cast, down_cast, down_cast]

/-- and the result a sum of four. -/
theorem pay46_at (a : Vec Ideal S1x192x512 .f32) (b d e : Vec Ideal S1x192x512 .bf16) (i : S192x512.Idx) :
    k0_pay46 (F := Ideal) a b d e i = (a (up i) + b (up i) + d (up i) + e (up i) : EReal) := by
  unfold k0_pay46
  show (shapeCast S192x512 a _ i + shapeCast S192x512 b _ i + shapeCast S192x512 d _ i + shapeCast S192x512 e _ i : EReal) = _
  rw [down_cast, down_cast, down_cast, down_cast]

/-- Narrowing changes nothing of the right operand -/
theorem pay1_at (v : Vec Ideal S768x512 .f32) : k0_pay1 (F := Ideal) v = v := by
  show shapeCast S768x512 (shapeCast S768x512 v _) _ = v
  rw [shapeCast_self, shapeCast_self]

/-- or of the left. -/
theorem pay18_at (v : Vec Ideal S1536x768 .f32) : k0_pay18 (F := Ideal) v = v := by
  show shapeCast S1536x768 (shapeCast S1536x768 v _) _ = v
  rw [shapeCast_self, shapeCast_self]

/-! ## The result as a sum over the devices -/

variable (A : Dev nD → Vec Ideal S1536x768 .f32) (B : Dev nD → Vec Ideal S768x1536 .f32)

/-- Device `d`'s product for chunk `k` and third `j`. -/
def term (j : Fin 3) (i : S192x512.Idx) (k d : Dev nD) : EReal := prod (chA A d k) (fun x => B d ((colR 768 j).idx x)) i

/-- The narrowed third is the third, -/
theorem thB_at (c : Dev nD) (j : Fin 3) : thB B c j = fun x => B c ((colR 768 j).idx x) := by
  funext x
  unfold thB b16
  rw [byCol_col, pay1_at]

/-- and the narrowed chunk the chunk. -/
theorem chA16_at (c k : Dev nD) : chA16 A c k = chA A c k := by
  unfold chA16 chA a16
  rw [pay18_at]

/-- What a device sends at the first step is its product for the slot's chunk, -/
theorem sent_at (c : Dev nD) (j : Fin 3) (s : ℕ) (i : S192x512.Idx) : sent A B c j s (up i) = term A B j i (chunkOf j (Fin.ofNat 8 (4 + s)) c) c := by
  unfold sent term; rw [pay2_at, thB_at]; rfl

/-- and what it keeps likewise. -/
theorem part_at (c : Dev nD) (j : Fin 3) (s : ℕ) (i : S192x512.Idx) : part A B c j s (up i) = term A B j i (chunkOf j (Fin.ofNat 8 s) c) c := by
  unfold part term; rw [pay19_at, thB_at, chA16_at]; rfl

/-- A slot's chunk of a slot's chunk is the device's own. -/
theorem chunk_chunk (j : Fin 3) (s : Fin 8) (c : Dev nD) : chunkOf j s (chunkOf j s c) = c := by revert j s c; decide +kernel
/-- The first step's partner is the chunk of slot 4, -/
theorem flip_100 (j : Fin 3) (c : Dev nD) : flip (ax j 0) c = chunkOf j 4 c := by revert j c; decide +kernel
/-- the second's that of slot 2, -/
theorem flip_010 (j : Fin 3) (c : Dev nD) : flip (ax j 1) c = chunkOf j 2 c := by revert j c; decide +kernel
/-- the third's that of slot 1. -/
theorem flip_001 (j : Fin 3) (c : Dev nD) : flip (ax j 2) c = chunkOf j 1 c := by revert j c; decide +kernel
/-- Slots 4 and 2 one after the other are slot 6, -/
theorem chunk_6 (j : Fin 3) (c : Dev nD) : chunkOf j 4 (chunkOf j 2 c) = chunkOf j 6 c := by revert j c; decide +kernel
/-- 4 and 1 are 5, -/
theorem chunk_5 (j : Fin 3) (c : Dev nD) : chunkOf j 4 (chunkOf j 1 c) = chunkOf j 5 c := by revert j c; decide +kernel
/-- 2 and 1 are 3, -/
theorem chunk_3 (j : Fin 3) (c : Dev nD) : chunkOf j 2 (chunkOf j 1 c) = chunkOf j 3 c := by revert j c; decide +kernel
/-- 4 and 3 are 7. -/
theorem chunk_7 (j : Fin 3) (c : Dev nD) : chunkOf j 4 (chunkOf j 3 c) = chunkOf j 7 c := by revert j c; decide +kernel
/-- The eight slots of a scheme stand for the eight devices, each once. -/
theorem chunk_bij (j : Fin 3) (c : Dev nD) : Function.Bijective fun s : Fin 8 => chunkOf j s c := by
  refine (Finite.injective_iff_bijective (α := Fin 8)).mp ?_
  intro s s' h
  have : ∀ (j : Fin 3) (c : Dev nD) (s s' : Fin 8), chunkOf j s c = chunkOf j s' c → s = s' := by decide +kernel
  exact this j c s s' h

/-- The result of device `c` is the sum of the devices' products for its chunk. -/
theorem out_at (c : Dev nD) (j : Fin 3) (i : S192x512.Idx) : out A B c j i = ∑ d : Dev nD, term A B j i c d := by
  have e : (∑ s : Fin 8, term A B j i c (chunkOf j s c)) = ∑ d : Dev nD, term A B j i c d :=
    (chunk_bij j c).sum_comp fun d => term A B j i c d
  rw [← e, Fin.sum_univ_eight]
  unfold out sent2 sent1
  rw [pay46_at, pay32_at, pay40_at, pay32_at]
  simp only [sent_at, part_at, flip_100, flip_010, flip_001, chunk_6, chunk_5, chunk_3, chunk_7]
  have n : ∀ s : ℕ, ∀ h : s < 8, Fin.ofNat 8 s = (⟨s, h⟩ : Fin 8) := fun s h => Fin.ext (Nat.mod_eq_of_lt h)
  rw [show Fin.ofNat 8 (4 + 0) = (4 : Fin 8) from rfl, show Fin.ofNat 8 (4 + 1) = (5 : Fin 8) from rfl, show Fin.ofNat 8 (2 + 0) = (2 : Fin 8) from rfl,
    show Fin.ofNat 8 (4 + (2 + 0)) = (6 : Fin 8) from rfl, show Fin.ofNat 8 0 = (0 : Fin 8) from rfl, show Fin.ofNat 8 1 = (1 : Fin 8) from rfl,
    show Fin.ofNat 8 (2 + 1) = (3 : Fin 8) from rfl, show Fin.ofNat 8 (4 + (2 + 1)) = (7 : Fin 8) from rfl]
  simp only [chunk_chunk, chunk_own]
  abel

/-! ## The result as a block of the whole product -/

/-- If every device holds its block of two whole matrices, its result is its block of their product. -/
theorem outV_block (X : (⟨2, ![1536, 6144]⟩ : Shape).Idx → EReal) (Y : (⟨2, ![6144, 1536]⟩ : Shape).Idx → EReal)
    (hA : ∀ c, A c = Layout.block ⟨2, ![1536, 768]⟩ ⟨2, ![1536, 6144]⟩ 1 8 c X) (hB : ∀ c, B c = Layout.block ⟨2, ![768, 1536]⟩ ⟨2, ![6144, 1536]⟩ 0 8 c Y)
    (c : Dev nD) :
    outV A B c = Layout.block ⟨2, ![192, 1536]⟩ ⟨2, ![1536, 1536]⟩ 0 8 c
      (Host.dotGeneral (F := Ideal) (φ₁ := .f32) (φ₂ := .f32) (DotDims.plain 1536 6144 1536) none X Y) := by
  funext x
  rw [Layout.block_apply]
  set h : Layout.Tiles ⟨2, ![192, 1536]⟩ ⟨2, ![1536, 1536]⟩ 0 8 := by decide with hh
  obtain ⟨p, q, hpq⟩ : ∃ (p : Fin 1536) (q : Fin 1536), h.idx c x = ix2 p q := ⟨_, _, eq_ix2 _⟩
  have hp : p.val = c.val * 192 + (x 0).val := (congrArg (fun y => (y 0).val) hpq).symm
  have hq : q.val = (x 1).val := (congrArg (fun y => (y 1).val) hpq).symm
  rw [hpq, StackMember.dotGeneral_plain_apply]
  unfold outV byCol
  rw [out_at, ← Equiv.sum_comp (finProdFinEquiv : Fin 8 × Fin 768 ≃ Fin (8 * 768)), Fintype.sum_prod_type]
  refine Finset.sum_congr rfl fun d _ => ?_
  unfold term prod chA
  refine Finset.sum_congr rfl fun t _ => ?_
  rw [hA, hB]
  beta_reduce
  rw [Layout.block_apply, Layout.block_apply]
  have hv : ((finProdFinEquiv (d, t) : Fin (8 * 768)).val) = t.val + 768 * d.val := rfl
  congr 1
  · congr 1
    funext a
    match a with
    | 0 =>
      refine Fin.ext ?_
      show 192 * c.val + 1 * (x 0).val = p.val
      omega
    | 1 =>
      refine Fin.ext ?_
      show d.val * 768 + (0 + 1 * t.val) = t.val + 768 * d.val
      omega
  · congr 1
    funext a
    match a with
    | 0 =>
      refine Fin.ext ?_
      show d.val * 768 + (0 + 1 * t.val) = t.val + 768 * d.val
      omega
    | 1 =>
      refine Fin.ext ?_
      show colOff (colOf x) + 1 * ((x 1).val % 512) = q.val
      rw [colOff_eq]
      show 512 * ((x 1).val / 512) + _ = _
      omega

end Cert.KernelIdeal.Pf
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs to its end, leaves its arguments as they were, and ends with every semaphore at zero. -/
theorem frame_kernel : Cert.quiescent_Kernel (hKernel := Cert.Kernel.Gen.facts) := fun m ρ _ =>
  (θ_run Cert.Kernel.defs _ _).mono (fun _ h => ⟨fun c => ⟨(h.1 c).1, (h.1 c).2.1⟩, h.2⟩) (Cert.Kernel.Pf.run_all (F := Bits) m ρ)

/-- The same of the kernel at exact arithmetic. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdeal.Pf.run_all (F := Ideal) m ρ)

/-- The same of the reference, which declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- At exact arithmetic, when every device holds its columns of `A` and its rows of `B`, every device ends holding its
    rows of `A @ B` as the reference computes it. -/
theorem value : Cert.algebraic_KernelIdeal_ReferenceIdeal (hKernelIdeal := Cert.KernelIdeal.Gen.facts)
    (hReferenceIdeal := Cert.ReferenceIdeal.Gen.facts) := by
  intro m ρ m' ρ' _ hagree
  refine ⟨_, (θ_run Cert.KernelIdeal.defs _ _).mono (fun _ h c => ⟨(h.1 c).2.2.trans ?_, (h.1 c).1, (h.1 c).2.1⟩)
      (Cert.KernelIdeal.Pf.run_all (F := Ideal) m ρ),
    (θ_run Cert.ReferenceIdeal.defs _ _).mono (fun _ h => h 0) (Cert.ReferenceIdeal.Value.run (F := Ideal) m' ρ')⟩
  exact Cert.KernelIdeal.Pf.outV_block _ _ _ _ (fun d => (hagree d).1) (fun d => (hagree d).2) c

theorem claim : Cert.Claim := ⟨Cert.Kernel.Gen.facts, Cert.KernelIdeal.Gen.facts, Cert.ReferenceIdeal.Gen.facts,
  frame_kernel, frame_ideal, frame_reference, trivial, value⟩

end Cert.Proof

end
